-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1024x1024 : Shape := ⟨2, ![1024, 1024]⟩
abbrev S2x1024x512 : Shape := ⟨3, ![2, 1024, 512]⟩
abbrev S3 : Shape := ⟨1, ![3]⟩
abbrev S1024x512 : Shape := ⟨2, ![1024, 512]⟩
abbrev S1x1024x512 : Shape := ⟨3, ![1, 1024, 512]⟩
abbrev S_ : Shape := ⟨0, ![]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1024x8192, .f32⟩
  | .local _ .vmem, ⟨0, _⟩ => ⟨S4096x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S2x1024x512, .f32⟩
  | .local _ .vmem, ⟨6, _⟩ => ⟨S2x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev barrier0 : Sem sig := 0

abbrev nD : Nat := 4
abbrev τ : Topo := Topo.v7x

variable {F : FTy → Type} [FloatOps F]

abbrev grid0 : Pipeline.Grid := ⟨1, ![8], ![false]⟩

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v25 : BitVec 32 := Scalar.subi v2 c1_i32_13
  let c4_i32_14 : BitVec 32 := 4#32
  let c0_i32_15 : BitVec 32 := 0#32
  let v26 : BitVec 1 := Scalar.cmpi .eq c4_i32_14 c0_i32_15
  let c1_i32_16 : BitVec 32 := 1#32
  let v27 : BitVec 32 := Scalar.select v26 c1_i32_16 c4_i32_14
  let v28 : BitVec 32 := Scalar.remsi v25 v27
  let c0_i32_18 : BitVec 32 := 0#32
  let v30 : BitVec 1 := Scalar.cmpi .slt v28 c0_i32_18
  let c0_i32_19 : BitVec 32 := 0#32
  let v31 : BitVec 1 := Scalar.cmpi .slt v27 c0_i32_19
  let v32 : BitVec 1 := Scalar.xori v30 v31
  let c0_i32_17 : BitVec 32 := 0#32
  let v29 : BitVec 1 := Scalar.cmpi .ne v28 c0_i32_17
  let v33 : BitVec 1 := Scalar.andi v32 v29
  let v34 : BitVec 32 := Scalar.addi v28 v27
  let v35 : BitVec 32 := Scalar.select v33 v34 v28
  let c1024_i32 : BitVec 32 := 1024#32
  let v36 : BitVec 32 := Scalar.muli v35 c1024_i32
  let v37 : Index := Scalar.indexCast v36
  let c0 : Index := 0#32
  ![v37.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_25 : BitVec 32 := 1#32
  let v46 : BitVec 32 := Scalar.addi v2 c1_i32_25
  let c4_i32_26 : BitVec 32 := 4#32
  let c0_i32_27 : BitVec 32 := 0#32
  let v47 : BitVec 1 := Scalar.cmpi .eq c4_i32_26 c0_i32_27
  let c1_i32_28 : BitVec 32 := 1#32
  let v48 : BitVec 32 := Scalar.select v47 c1_i32_28 c4_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c1024_i32_32 : BitVec 32 := 1024#32
  let v57 : BitVec 32 := Scalar.muli v56 c1024_i32_32
  let v58 : Index := Scalar.indexCast v57
  let c0_33 : Index := 0#32
  ![v58.toNat, 0]
def k0_dev1 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_40 : BitVec 32 := 1#32
  let v68 : BitVec 32 := Scalar.muli v24 c1_i32_40
  let v69 : BitVec 32 := Scalar.addi c0_i32_41 v68
  v69.toNat
def k0_dev2 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_43 : BitVec 32 := 1#32
  let v70 : BitVec 32 := Scalar.muli v13 c1_i32_43
  let v71 : BitVec 32 := Scalar.addi c0_i32_44 v70
  v71.toNat
def k0_dev3 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_49 : BitVec 32 := 1#32
  let v72 : BitVec 32 := Scalar.muli v13 c1_i32_49
  let v73 : BitVec 32 := Scalar.addi c0_i32_50 v72
  v73.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_59 : BitVec 32 := 1#32
  let v82 : BitVec 32 := Scalar.muli v24 c1_i32_59
  let v83 : BitVec 32 := Scalar.addi c0_i32_60 v82
  v83.toNat
def k0_off3 (d0 : Dev nD) (c0_i32_66 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_65 : BitVec 32 := 2#32
  let v92 : BitVec 32 := Scalar.subi v2 c2_i32_65
  let v93 : BitVec 32 := Scalar.subi v92 c0_i32_66
  let c4_i32_67 : BitVec 32 := 4#32
  let c0_i32_68 : BitVec 32 := 0#32
  let v94 : BitVec 1 := Scalar.cmpi .eq c4_i32_67 c0_i32_68
  let c1_i32_69 : BitVec 32 := 1#32
  let v95 : BitVec 32 := Scalar.select v94 c1_i32_69 c4_i32_67
  let v96 : BitVec 32 := Scalar.remsi v93 v95
  let c0_i32_71 : BitVec 32 := 0#32
  let v98 : BitVec 1 := Scalar.cmpi .slt v96 c0_i32_71
  let c0_i32_72 : BitVec 32 := 0#32
  let v99 : BitVec 1 := Scalar.cmpi .slt v95 c0_i32_72
  let v100 : BitVec 1 := Scalar.xori v98 v99
  let c0_i32_70 : BitVec 32 := 0#32
  let v97 : BitVec 1 := Scalar.cmpi .ne v96 c0_i32_70
  let v101 : BitVec 1 := Scalar.andi v100 v97
  let v102 : BitVec 32 := Scalar.addi v96 v95
  let v103 : BitVec 32 := Scalar.select v101 v102 v96
  let c1024_i32_81 : BitVec 32 := 1024#32
  let v116 : BitVec 32 := Scalar.muli v103 c1024_i32_81
  let v117 : Index := Scalar.indexCast v116
  let c0_82 : Index := 0#32
  ![v117.toNat, 0]
def k0_off4 (d0 : Dev nD) (c0_i32_74 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_73 : BitVec 32 := 2#32
  let v104 : BitVec 32 := Scalar.addi v2 c2_i32_73
  let v105 : BitVec 32 := Scalar.addi v104 c0_i32_74
  let c4_i32_75 : BitVec 32 := 4#32
  let c0_i32_76 : BitVec 32 := 0#32
  let v106 : BitVec 1 := Scalar.cmpi .eq c4_i32_75 c0_i32_76
  let c1_i32_77 : BitVec 32 := 1#32
  let v107 : BitVec 32 := Scalar.select v106 c1_i32_77 c4_i32_75
  let v108 : BitVec 32 := Scalar.remsi v105 v107
  let c0_i32_79 : BitVec 32 := 0#32
  let v110 : BitVec 1 := Scalar.cmpi .slt v108 c0_i32_79
  let c0_i32_80 : BitVec 32 := 0#32
  let v111 : BitVec 1 := Scalar.cmpi .slt v107 c0_i32_80
  let v112 : BitVec 1 := Scalar.xori v110 v111
  let c0_i32_78 : BitVec 32 := 0#32
  let v109 : BitVec 1 := Scalar.cmpi .ne v108 c0_i32_78
  let v113 : BitVec 1 := Scalar.andi v112 v109
  let v114 : BitVec 32 := Scalar.addi v108 v107
  let v115 : BitVec 32 := Scalar.select v113 v114 v108
  let c1024_i32_86 : BitVec 32 := 1024#32
  let v123 : BitVec 32 := Scalar.muli v115 c1024_i32_86
  let v124 : Index := Scalar.indexCast v123
  let c0_87 : Index := 0#32
  ![v124.toNat, 0]
def k0_dev5 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_141 : BitVec 32 := 1#32
  let v171 : BitVec 32 := Scalar.muli v24 c1_i32_141
  let v172 : BitVec 32 := Scalar.addi c0_i32_142 v171
  v172.toNat
def k0_dev6 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_144 : BitVec 32 := 1#32
  let v173 : BitVec 32 := Scalar.muli v13 c1_i32_144
  let v174 : BitVec 32 := Scalar.addi c0_i32_145 v173
  v174.toNat
def k0_dev7 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_152 : BitVec 32 := 1#32
  let v175 : BitVec 32 := Scalar.muli v13 c1_i32_152
  let v176 : BitVec 32 := Scalar.addi c0_i32_153 v175
  v176.toNat
def k0_dev8 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_162 : BitVec 32 := 1#32
  let v185 : BitVec 32 := Scalar.muli v24 c1_i32_162
  let v186 : BitVec 32 := Scalar.addi c0_i32_163 v185
  v186.toNat
def k0_dev9 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_245 : BitVec 32 := 1#32
  let v274 : BitVec 32 := Scalar.muli v24 c1_i32_245
  let v275 : BitVec 32 := Scalar.addi c0_i32_246 v274
  v275.toNat
def k0_dev10 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_248 : BitVec 32 := 1#32
  let v276 : BitVec 32 := Scalar.muli v13 c1_i32_248
  let v277 : BitVec 32 := Scalar.addi c0_i32_249 v276
  v277.toNat
def k0_dev11 (d0 : Dev nD) : Nat :=
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_256 : BitVec 32 := 1#32
  let v278 : BitVec 32 := Scalar.muli v13 c1_i32_256
  let v279 : BitVec 32 := Scalar.addi c0_i32_257 v278
  v279.toNat
def k0_dev12 (d0 : Dev nD) : Nat :=
  let c0_i32_267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_266 : BitVec 32 := 1#32
  let v288 : BitVec 32 := Scalar.muli v24 c1_i32_266
  let v289 : BitVec 32 := Scalar.addi c0_i32_267 v288
  v289.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Proto.lean ====
/-
# The protocol of the two-way ring: cells, slots, contents, schedule

Every device works through the grid points `j = 0..7`, at each of them three hops `s = 0,1,2`; hop `(j, s)` is number
`3 * j + s`. Direction `true` goes to the next device, direction `false` to the one before.

Per hop, device `c`:
* gives its landing slot of direction `true` to the device before it and its landing slot of direction `false` to the
  next one, by one unit each on their barrier semaphores; waits for the two units of its own (from both neighbours: it
  gets the next device's landing slot of direction `true` and the previous device's of direction `false`);
* copies its source slots into the two landing slots it was given; each copy hands the receiver the slot with the
  sender's sum in it and the fact that the sender is past that hop's barrier wait;
* waits for its two copies to be read out (its source slots come back) and for the two landings.
-/
module

public import proofs.«01_k».proof.Proof.Gen.KernelIdeal.Frame
public import proofs.«01_k».proof.Proof.Gen.KernelIdeal.Skeleton

@[expose] public section

set_option maxRecDepth 16384

noncomputable section

namespace Cert.KernelIdeal.TwoWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = prv c := by revert c; decide +kernel
theorem dev6_eq (c : Dev nD) : (⟨k0_dev6 c, k0_dev6_lt c⟩ : Dev nD) = nxt c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel
theorem dev9_eq (c : Dev nD) : (⟨k0_dev9 c, k0_dev9_lt c⟩ : Dev nD) = prv c := by revert c; decide +kernel
theorem dev10_eq (c : Dev nD) : (⟨k0_dev10 c, k0_dev10_lt c⟩ : Dev nD) = nxt c := by revert c; decide +kernel
theorem dev11_eq (c : Dev nD) : (⟨k0_dev11 c, k0_dev11_lt c⟩ : Dev nD) = nxt c := by revert c; decide +kernel
theorem dev12_eq (c : Dev nD) : (⟨k0_dev12 c, k0_dev12_lt c⟩ : Dev nD) = prv c := by revert c; decide +kernel

/-- Where a copy of direction `d` goes, and where it comes from. -/
def dest (d : Bool) (c : Dev nD) : Dev nD := if d then nxt c else prv c
def orig (d : Bool) (c : Dev nD) : Dev nD := if d then prv c else nxt c

theorem orig_dest (d : Bool) (c : Dev nD) : orig d (dest d c) = c := by cases d <;> [exact nxt_prv c; exact prv_nxt c]
theorem dest_orig (d : Bool) (c : Dev nD) : dest d (orig d c) = c := by cases d <;> [exact prv_nxt c; exact nxt_prv c]

/-! ## The slots and the semaphores -/

abbrev aM : Memref sig .tc .vmem S2x1024x512 .f32 := Memref.whole cc0_scratch0
abbrev bM : Memref sig .tc .vmem S2x1024x512 .f32 := Memref.whole cc0_scratch1

abbrev rS0 : Rect S2x1024x512 := Rect.unit (s := S2x1024x512) ![0, 0, 0] S1x1024x512.size inb_S2x1024x512_S1x1024x512_0_0_0
abbrev rS1 : Rect S2x1024x512 := Rect.unit (s := S2x1024x512) ![1, 0, 0] S1x1024x512.size inb_S2x1024x512_S1x1024x512_1_0_0

/-- Slot `k` (`false`: 0, `true`: 1) of direction `d`'s buffer. -/
abbrev slot (d k : Bool) : Memref sig .tc .vmem S1x1024x512 .f32 := match d, k with
  | true, false => aM.slice rS0 (fun _ => rfl)
  | true, true => aM.slice rS1 (fun _ => rfl)
  | false, false => bM.slice rS0 (fun _ => rfl)
  | false, true => bM.slice rS1 (fun _ => rfl)

/-- The slot a copy of hop `s` lands in; it is sent from the other one. -/
abbrev dstK (s : Fin 3) : Bool := match s with | 0 => true | 1 => false | 2 => true

abbrev barS : Sem sig := (SemArray.scalar (sig.barrier 0 rfl) : Sems sig S_).sem

abbrev sndS (d : Bool) (s : Fin 3) : DmaSem sig := match d, s with
  | true, 0 => (5 : Fin 17) | true, 1 => (6 : Fin 17) | true, 2 => (7 : Fin 17)
  | false, 0 => (11 : Fin 17) | false, 1 => (12 : Fin 17) | false, 2 => (13 : Fin 17)
abbrev rcvS (d : Bool) (s : Fin 3) : DmaSem sig := match d, s with
  | true, 0 => (8 : Fin 17) | true, 1 => (9 : Fin 17) | true, 2 => (10 : Fin 17)
  | false, 0 => (14 : Fin 17) | false, 1 => (15 : Fin 17) | false, 2 => (16 : Fin 17)

abbrev barCell (c : Dev nD) : GSem nD τ sig := ((c : Thread nD τ), .reg barS)
abbrev sndCell (d : Bool) (s : Fin 3) (c : Dev nD) : GSem nD τ sig := ((c : Thread nD τ), .dma (sndS d s))
abbrev rcvCell (d : Bool) (s : Fin 3) (c : Dev nD) : GSem nD τ sig := ((c : Thread nD τ), .dma (rcvS d s))

theorem sem5 : ((cc0_scratch2.slice (Rect.unit (s := S3) ![0] S1.size inb_S3_S1_0)).squeeze S_ squeezes_S1_S_).sem = sndS true 0 := by decide
theorem sem6 : ((cc0_scratch2.slice (Rect.unit (s := S3) ![1] S1.size inb_S3_S1_1)).squeeze S_ squeezes_S1_S_).sem = sndS true 1 := by decide
theorem sem7 : ((cc0_scratch2.slice (Rect.unit (s := S3) ![2] S1.size inb_S3_S1_2)).squeeze S_ squeezes_S1_S_).sem = sndS true 2 := by decide
theorem sem8 : ((cc0_scratch3.slice (Rect.unit (s := S3) ![0] S1.size inb_S3_S1_0)).squeeze S_ squeezes_S1_S_).sem = rcvS true 0 := by decide
theorem sem9 : ((cc0_scratch3.slice (Rect.unit (s := S3) ![1] S1.size inb_S3_S1_1)).squeeze S_ squeezes_S1_S_).sem = rcvS true 1 := by decide
theorem sem10 : ((cc0_scratch3.slice (Rect.unit (s := S3) ![2] S1.size inb_S3_S1_2)).squeeze S_ squeezes_S1_S_).sem = rcvS true 2 := by decide
theorem sem11 : ((cc0_scratch4.slice (Rect.unit (s := S3) ![0] S1.size inb_S3_S1_0)).squeeze S_ squeezes_S1_S_).sem = sndS false 0 := by decide
theorem sem12 : ((cc0_scratch4.slice (Rect.unit (s := S3) ![1] S1.size inb_S3_S1_1)).squeeze S_ squeezes_S1_S_).sem = sndS false 1 := by decide
theorem sem13 : ((cc0_scratch4.slice (Rect.unit (s := S3) ![2] S1.size inb_S3_S1_2)).squeeze S_ squeezes_S1_S_).sem = sndS false 2 := by decide
theorem sem14 : ((cc0_scratch5.slice (Rect.unit (s := S3) ![0] S1.size inb_S3_S1_0)).squeeze S_ squeezes_S1_S_).sem = rcvS false 0 := by decide
theorem sem15 : ((cc0_scratch5.slice (Rect.unit (s := S3) ![1] S1.size inb_S3_S1_1)).squeeze S_ squeezes_S1_S_).sem = rcvS false 1 := by decide
theorem sem16 : ((cc0_scratch5.slice (Rect.unit (s := S3) ![2] S1.size inb_S3_S1_2)).squeeze S_ squeezes_S1_S_).sem = rcvS false 2 := by decide

/-- The amount of one copy. -/
abbrev N : ℕ := ((slot true false).squeeze S1024x512 squeezes_S1x1024x512_S1024x512).view.dmaCredit
theorem N_pos : 0 < N := View.dmaCredit_pos _ (by decide)
theorem N_eq (d k : Bool) : ((slot d k).squeeze S1024x512 squeezes_S1x1024x512_S1024x512).view.dmaCredit = N := by
  cases d <;> cases k <;> rfl

/-! ## Contents -/

/-- The grid point of step `j`. -/
def pt (j : ℕ) : Fin cfg0.N := ⟨j % 8, by rw [show cfg0.N = 8 from N_0]; exact Nat.mod_lt _ (by decide)⟩

theorem pt_val (t : Fin cfg0.N) : pt t.val = t := Fin.ext (Nat.mod_eq_of_lt (t.isLt.trans_eq N_0))

/-- Device `c`'s columns of `x` and its rows of `w_mat` (the columns of step `j`), as staged. -/
def xs (c : Dev nD) (j : ℕ) : S4096x1024.Idx → Elt F .f32 := iblk m c 0 (pt j)
def ws (c : Dev nD) (j : ℕ) : S1024x1024.Idx → Elt F .f32 := iblk m c 1 (pt j)

/-- The rows of `x` from an offset, the left and the right half of the columns of `w_mat`. -/
def xr (c : Dev nD) (j : ℕ) (off : Fin 2 → ℕ) (h : ∀ a, off a + S1024x1024.size a ≤ S4096x1024.size a) : Vec F S1024x1024 .f32 :=
  fun x => xs m c j ((Rect.unit (s := S4096x1024) off S1024x1024.size h).emb x)
def wl (c : Dev nD) (j : ℕ) : Vec F S1024x512 .f32 :=
  fun x => ws m c j ((Rect.unit (s := S1024x1024) ![0, 0] S1024x512.size inb_S1024x1024_S1024x512_0_0).emb x)
def wr (c : Dev nD) (j : ℕ) : Vec F S1024x512 .f32 :=
  fun x => ws m c j ((Rect.unit (s := S1024x1024) ![0, 512] S1024x512.size inb_S1024x1024_S1024x512_0_512).emb x)

/-- The partial product added at hop `s`. -/
def part (d : Bool) (s : Fin 3) (c : Dev nD) (j : ℕ) : FVec F S1024x512 .f32 := match d, s with
  | true, 0 => k0_pay4 (xr m c j (k0_off3 c 0#32) (k0_off3_inb c 0)) (wl m c j)
  | true, 1 => k0_pay8 (xr m c j (k0_off3 c 1#32) (k0_off3_inb c 1)) (wl m c j)
  | true, 2 => k0_pay13 (k0_pay12 (xr m c j (k0_off3 c 2#32) (k0_off3_inb c 2))) (wl m c j)
  | false, 0 => k0_pay5 (xr m c j (k0_off4 c 0#32) (k0_off4_inb c 0)) (wr m c j)
  | false, 1 => k0_pay9 (xr m c j (k0_off4 c 1#32) (k0_off4_inb c 1)) (wr m c j)
  | false, 2 => k0_pay14 (xr m c j (k0_off4 c 2#32) (k0_off4_inb c 2)) (wr m c j)

/-- What device `c` sends at hop `s`: its first partial product, then what it received with its own partial product added. -/
def sent0 (d : Bool) (c : Dev nD) (j : ℕ) : Vec F S1x1024x512 .f32 := match d with
  | true => k0_pay2 (xr m c j (k0_off1 c) (k0_off1_inb c)) (wl m c j)
  | false => k0_pay3 (xr m c j (k0_off2 c) (k0_off2_inb c)) (wr m c j)
def sent1 (d : Bool) (c : Dev nD) (j : ℕ) : Vec F S1x1024x512 .f32 := match d with
  | true => k0_pay6 (part m true 0 c j) (sent0 m true (prv c) j)
  | false => k0_pay7 (part m false 0 c j) (sent0 m false (nxt c) j)
def sent2 (d : Bool) (c : Dev nD) (j : ℕ) : Vec F S1x1024x512 .f32 := match d with
  | true => k0_pay10 (part m true 1 c j) (sent1 m true (prv c) j)
  | false => k0_pay11 (part m false 1 c j) (sent1 m false (nxt c) j)
def sent (d : Bool) (s : Fin 3) (c : Dev nD) (j : ℕ) : Vec F S1x1024x512 .f32 := match s with
  | 0 => sent0 m d c j | 1 => sent1 m d c j | 2 => sent2 m d c j

/-- The two halves of device `c`'s result block at step `j`. -/
def outl (c : Dev nD) (j : ℕ) : Vec F S1024x512 .f32 := k0_pay15 (part m true 2 c j) (sent2 m true (prv c) j)
def outr (c : Dev nD) (j : ℕ) : Vec F S1024x512 .f32 := k0_pay1 (k0_pay16 (part m false 2 c j) (sent2 m false (nxt c) j)) k0_pay17

/-- The result block, from its two halves. -/
def outAt (c : Dev nD) (j : ℕ) : S1024x1024.Idx → Elt F .f32 := fun x =>
  if h : (x 1).val < 512 then outl m c j (fun a => match a with | ⟨0, _⟩ => x 0 | ⟨1, _⟩ => ⟨(x 1).val, h⟩)
  else outr m c j (fun a => match a with | ⟨0, _⟩ => x 0 | ⟨1, _⟩ => ⟨(x 1).val - 512, by
    have h1 : (x 1).val < 1024 := (x 1).isLt
    show (x 1).val - 512 < 512
    omega⟩)

/-! ## The schedule -/

/-- A slot held outright, at contents `X`. -/
def own1 (d k : Bool) (c : Dev nD) (X : Vec F S1x1024x512 .f32) : sProp 𝕄 := owns (c : Thread nD τ) (slot d k) fullShare X

omit [FloatOps F] in
instance own1_storable (d k : Bool) (c : Dev nD) (X : Vec F S1x1024x512 .f32) : BI.Storable (upEmb : UEmb _ 𝕄) (own1 (F := F) d k c X) := by
  unfold own1; infer_instance

/-- What a semaphore is for. -/
inductive Use where
  | bar | snd (d : Bool) (s : Fin 3) | rcv (d : Bool) (s : Fin 3) | other
deriving DecidableEq

def useOf (sm : SemLoc sig) : Use := match sm with
  | .reg _ => .bar
  | .dma q => match (show Fin 17 from q).val with
    | 5 => .snd true 0 | 6 => .snd true 1 | 7 => .snd true 2
    | 8 => .rcv true 0 | 9 => .rcv true 1 | 10 => .rcv true 2
    | 11 => .snd false 0 | 12 => .snd false 1 | 13 => .snd false 2
    | 14 => .rcv false 0 | 15 => .rcv false 1 | 16 => .rcv false 2
    | _ => .other

theorem use_bar : useOf (.reg barS) = .bar := rfl
theorem use_snd (d : Bool) (s : Fin 3) : useOf (.dma (sndS d s)) = .snd d s := by revert d s; decide
theorem use_rcv (d : Bool) (s : Fin 3) : useOf (.dma (rcvS d s)) = .rcv d s := by revert d s; decide

def hopS (r : ℕ) : Fin 3 := ⟨r % 3, Nat.mod_lt _ (by decide)⟩
def hop (j : ℕ) (s : Fin 3) : ℕ := 3 * j + s.val
theorem hop_div (j : ℕ) (s : Fin 3) : hop j s / 3 = j := by unfold hop; have := s.isLt; omega
theorem hop_mod (j : ℕ) (s : Fin 3) : hopS (hop j s) = s := Fin.ext (by unfold hopS hop; have := s.isLt; show (3 * j + s.val) % 3 = s.val; omega)

/-- What the neighbour `dest d c` hands device `c` by its unit on `c`'s barrier in round `hop j s`: its landing slot of
    direction `d`, and that it has reached round `j` of that hop's receive semaphore. -/
def barPay (d : Bool) (c : Dev nD) (j : ℕ) (s : Fin 3) : sProp 𝕄 :=
  iprop((∃ X, own1 d (dstK s) (dest d c) X) ∗ reached ER (rcvCell d s (dest d c)) j)
/-- What the copy from `orig d c` hands device `c`: the landing slot with the sender's sum, and that the sender has reached
    the next round of its barrier semaphore. -/
def rcvPay (d : Bool) (s : Fin 3) (c : Dev nD) (j : ℕ) : sProp 𝕄 :=
  iprop(own1 d (dstK s) c (sent m d s (orig d c) j) ∗ reached ER (barCell (orig d c)) (hop j s + 1))
/-- What the copy hands its sender back: the source slot. -/
def sndPay (d : Bool) (s : Fin 3) (c : Dev nD) (j : ℕ) : sProp 𝕄 := own1 d (!dstK s) c (sent m d s c j)

def rd : Rounds.Schedule (GSem nD τ sig) Bool 𝕄 where
  duties g r := if g.1.2 = .tc then (match useOf g.2 with
    | .bar => if r < 24 then Finset.univ else ∅
    | .snd _ _ => if r < 8 then {true} else ∅
    | .rcv _ _ => if r < 8 then {true} else ∅
    | .other => ∅) else ∅
  unitless _ := False
  amount g _ _ := match useOf g.2 with | .bar => 1 | _ => N
  payload g r d := match useOf g.2 with
    | .bar => barPay d g.1.1 (r / 3) (hopS r)
    | .snd d' s => sndPay m d' s g.1.1 r
    | .rcv d' s => rcvPay m d' s g.1.1 r
    | .other => iprop(emp)
  amount_pos g _ _ _ := by
    show 0 < (match useOf g.2 with | .bar => 1 | _ => N)
    split
    · exact Nat.one_pos
    · exact N_pos

instance rd_payload_storable (g : GSem nD τ sig) (r : ℕ) (d : Bool) :
    BI.Storable (upEmb : UEmb _ 𝕄) ((rd (F := F) m).payload g r d) := by
  show BI.Storable upEmb (match useOf g.2 with
    | .bar => barPay d g.1.1 (r / 3) (hopS r)
    | .snd d' s => sndPay m d' s g.1.1 r
    | .rcv d' s => rcvPay m d' s g.1.1 r
    | .other => iprop(emp))
  unfold barPay sndPay rcvPay
  (repeat' split) <;> infer_instance

section Sched
variable (c : Dev nD)

theorem duties_bar (r : ℕ) (h : r < 24) : (rd (F := F) m).duties (barCell c) r = Finset.univ := by
  dsimp only [rd]; rw [if_pos rfl]; show (if r < 24 then _ else _) = _; exact if_pos h
theorem duties_snd (d : Bool) (s : Fin 3) (r : ℕ) (h : r < 8) : (rd (F := F) m).duties (sndCell d s c) r = {true} := by
  dsimp only [rd]; rw [if_pos rfl, use_snd]; exact if_pos h
theorem duties_rcv (d : Bool) (s : Fin 3) (r : ℕ) (h : r < 8) : (rd (F := F) m).duties (rcvCell d s c) r = {true} := by
  dsimp only [rd]; rw [if_pos rfl, use_rcv]; exact if_pos h
theorem late_bar : ∀ r, 24 ≤ r → (rd (F := F) m).duties (barCell c) r = ∅ := fun r h => by
  dsimp only [rd]; rw [if_pos rfl]; show (if r < 24 then _ else _) = _; exact if_neg (by omega)
theorem late_snd (d : Bool) (s : Fin 3) : ∀ r, 8 ≤ r → (rd (F := F) m).duties (sndCell d s c) r = ∅ := fun r h => by
  dsimp only [rd]; rw [if_pos rfl, use_snd]; exact if_neg (by omega)
theorem late_rcv (d : Bool) (s : Fin 3) : ∀ r, 8 ≤ r → (rd (F := F) m).duties (rcvCell d s c) r = ∅ := fun r h => by
  dsimp only [rd]; rw [if_pos rfl, use_rcv]; exact if_neg (by omega)

theorem amount_bar (r : ℕ) (d : Bool) : (rd (F := F) m).amount (barCell c) r d = 1 := rfl
theorem amount_snd (d : Bool) (s : Fin 3) (r : ℕ) (e : Bool) : (rd (F := F) m).amount (sndCell d s c) r e = N := by
  dsimp only [rd]; rw [use_snd]
theorem amount_rcv (d : Bool) (s : Fin 3) (r : ℕ) (e : Bool) : (rd (F := F) m).amount (rcvCell d s c) r e = N := by
  dsimp only [rd]; rw [use_rcv]

theorem expect_bar (r : ℕ) (h : r < 24) : (rd (F := F) m).expect (barCell c) r = 2 := by
  unfold Schedule.expect Schedule.amountOf
  rw [duties_bar m c r h, Finset.sum_congr rfl fun d _ => amount_bar m c r d, Finset.sum_const, Finset.card_univ, Fintype.card_bool, smul_eq_mul]
theorem expect_snd (d : Bool) (s : Fin 3) (r : ℕ) (h : r < 8) : (rd (F := F) m).expect (sndCell d s c) r = N := by
  unfold Schedule.expect Schedule.amountOf; rw [duties_snd m c d s r h, Finset.sum_singleton, amount_snd]
theorem expect_rcv (d : Bool) (s : Fin 3) (r : ℕ) (h : r < 8) : (rd (F := F) m).expect (rcvCell d s c) r = N := by
  unfold Schedule.expect Schedule.amountOf; rw [duties_rcv m c d s r h, Finset.sum_singleton, amount_rcv]

theorem payload_bar (j : ℕ) (s : Fin 3) (d : Bool) : (rd (F := F) m).payload (barCell c) (hop j s) d = barPay d c j s := by
  show barPay d c (hop j s / 3) (hopS (hop j s)) = _; rw [hop_div, hop_mod]
theorem payload_snd (d : Bool) (s : Fin 3) (r : ℕ) (e : Bool) : (rd (F := F) m).payload (sndCell d s c) r e = sndPay m d s c r := by
  dsimp only [rd]; rw [use_snd]
theorem payload_rcv (d : Bool) (s : Fin 3) (r : ℕ) (e : Bool) : (rd (F := F) m).payload (rcvCell d s c) r e = rcvPay m d s c r := by
  dsimp only [rd]; rw [use_rcv]

theorem rest_bar (j : ℕ) (s : Fin 3) (h : hop j s < 24) :
    bigSep ((rd (F := F) m).duties (barCell c) (hop j s) \ ∅) (fun d => (rd (F := F) m).payload (barCell c) (hop j s) d)
      = iprop(barPay true c j s ∗ barPay false c j s) := by
  rw [Finset.sdiff_empty, duties_bar m c _ h, bigSep_univ_eq_bigSepL [true, false] (by decide) (by decide), bigSepL_cons_cons, bigSepL_singleton,
    payload_bar, payload_bar]
  rfl
theorem rest_snd (d : Bool) (s : Fin 3) (r : ℕ) (h : r < 8) :
    bigSep ((rd (F := F) m).duties (sndCell d s c) r \ ∅) (fun e => (rd (F := F) m).payload (sndCell d s c) r e) = sndPay m d s c r := by
  rw [Finset.sdiff_empty, duties_snd m c d s r h, bigSep_singleton, payload_snd]
theorem rest_rcv (d : Bool) (s : Fin 3) (r : ℕ) (h : r < 8) :
    bigSep ((rd (F := F) m).duties (rcvCell d s c) r \ ∅) (fun e => (rd (F := F) m).payload (rcvCell d s c) r e) = rcvPay m d s c r := by
  rw [Finset.sdiff_empty, duties_rcv m c d s r h, bigSep_singleton, payload_rcv]

end Sched

/-! ## What is owed, and the levels -/

/-- What device `c` owes for hop `r`: the two copies, and the two barrier units. -/
def owe1 (c : Dev nD) (r : ℕ) : CellTallies nD τ sig ℕ :=
  tallyAt (rcvCell true (hopS r) (nxt c)) r N + tallyAt (rcvCell false (hopS r) (prv c)) r N
def owe (c : Dev nD) (r : ℕ) : CellTallies nD τ sig ℕ := owe1 c r + tallyAt (barCell (nxt c)) r 1 + tallyAt (barCell (prv c)) r 1
/-- What it owes from hop `r` on. -/
def O (c : Dev nD) (r : ℕ) : CellTallies nD τ sig ℕ := ∑ u ∈ Finset.Ico r 24, owe c u

theorem O_peel (c : Dev nD) (r : ℕ) (h : r < 24) : O c r = owe c r + O c (r + 1) := by
  unfold O
  rw [show Finset.Ico r 24 = insert r (Finset.Ico (r + 1) 24) from Finset.ext fun x => by
    simp only [Finset.mem_Ico, Finset.mem_insert]; omega, Finset.sum_insert (by simp)]
theorem O_end (c : Dev nD) : O c 24 = 0 := by unfold O; rw [Finset.Ico_self, Finset.sum_empty]

def L (g : GSem nD τ sig) : Finset ℕ := if g.1.2 = .tc then Finset.range 24 else ∅
def lv (g : GSem nD τ sig) (r : ℕ) : ℕ := match useOf g.2 with | .bar => 2 * r + 1 | .rcv _ _ => 2 * r + 2 | _ => 0

theorem L_of_ne (g : GSem nD τ sig) (h : g.1.2 ≠ .tc) : L g = ∅ := if_neg h
theorem mem_L (c : Dev nD) (sm : SemLoc sig) (r : ℕ) (h : r < 24) : r ∈ L ((c : Thread nD τ), sm) := by
  unfold L; rw [if_pos rfl]; exact Finset.mem_range.mpr h
theorem lv_bar (c : Dev nD) (r : ℕ) : lv (barCell c) r = 2 * r + 1 := rfl
theorem lv_rcv (d : Bool) (s : Fin 3) (c : Dev nD) (r : ℕ) : lv (rcvCell d s c) r = 2 * r + 2 := by unfold lv; rw [use_rcv]
theorem lv_snd (d : Bool) (s : Fin 3) (c : Dev nD) (r : ℕ) : lv (sndCell d s c) r = 0 := by unfold lv; rw [use_snd]

/-- Where hop `r`'s copies and units are owed. -/
theorem owe1_pos {c : Dev nD} {r : ℕ} {g : GSem nD τ sig} {u : ℕ} (h : 0 < owe1 c r g u) :
    u = r ∧ g.1.2 = .tc ∧ lv g u = 2 * r + 2 := by
  unfold owe1 at h
  rw [Pi.add_apply, Finsupp.add_apply] at h
  rcases Nat.add_pos_iff_pos_or_pos.mp h with h | h
  · obtain ⟨rfl, rfl⟩ := Pipeline.tallyAt_pos h; exact ⟨rfl, rfl, lv_rcv _ _ _ _⟩
  · obtain ⟨rfl, rfl⟩ := Pipeline.tallyAt_pos h; exact ⟨rfl, rfl, lv_rcv _ _ _ _⟩
theorem owe_pos {c : Dev nD} {r : ℕ} {g : GSem nD τ sig} {u : ℕ} (h : 0 < owe c r g u) :
    u = r ∧ g.1.2 = .tc ∧ 2 * r + 1 ≤ lv g u := by
  unfold owe at h
  rw [Pi.add_apply, Finsupp.add_apply, Pi.add_apply, Finsupp.add_apply] at h
  rcases Nat.add_pos_iff_pos_or_pos.mp h with h | h
  · rcases Nat.add_pos_iff_pos_or_pos.mp h with h | h
    · obtain ⟨h1, h2, h3⟩ := owe1_pos h; exact ⟨h1, h2, by omega⟩
    · obtain ⟨rfl, rfl⟩ := Pipeline.tallyAt_pos h; exact ⟨rfl, rfl, (lv_bar _ _).ge⟩
  · obtain ⟨rfl, rfl⟩ := Pipeline.tallyAt_pos h; exact ⟨rfl, rfl, (lv_bar _ _).ge⟩
theorem O_pos {c : Dev nD} {r : ℕ} {g : GSem nD τ sig} {u : ℕ} (h : 0 < O c r g u) :
    u < 24 ∧ g.1.2 = .tc ∧ 2 * r + 1 ≤ lv g u := by
  unfold O at h
  rw [Finset.sum_apply, Finsupp.finsetSum_apply] at h
  obtain ⟨v, hv, hp⟩ := Finset.exists_ne_zero_of_sum_ne_zero h.ne'
  obtain ⟨h1, h2, h3⟩ := owe_pos (Nat.pos_of_ne_zero hp)
  have := Finset.mem_Ico.mp hv
  exact ⟨by omega, h2, by omega⟩

/-- A wait below everything owed. -/
theorem mayWait_below (c : Dev nD) (sm : SemLoc sig) (r k : ℕ) (O' : CellTallies nD τ sig ℕ) (hr : r < 24)
    (hk : lv ((c : Thread nD τ), sm) r ≤ k) (hO : ∀ g u, 0 < O' g u → u < 24 ∧ g.1.2 = .tc ∧ k < lv g u) :
    (levAts L lv : sProp 𝕄) ⊢ MayWait (c : Thread nD τ) sm r O' :=
  MayOwe.of_cut (L := L) (lev := lv) k (fun p hp => by rw [Finset.mem_singleton.mp hp]; exact mem_L c sm r hr)
    (fun g u hg => by
      obtain ⟨h1, h2, _⟩ := hO g u hg
      unfold L; rw [if_pos h2]; exact Finset.mem_range.mpr h1)
    (fun p hp => by rw [Finset.mem_singleton.mp hp]; exact hk)
    (fun g u hg => (hO g u hg).2.2)

/-- At its barrier wait of hop `r` device `c` owes that hop's copies and the later hops. -/
theorem mayWait_bar (c : Dev nD) (r : ℕ) (hr : r < 24) :
    (levAts L lv : sProp 𝕄) ⊢ MayWait (c : Thread nD τ) (.reg barS) r (O c (r + 1) + owe1 c r) :=
  mayWait_below c _ r (2 * r + 1) _ hr (lv_bar c r).le fun g u h => by
    rw [Pi.add_apply, Finsupp.add_apply] at h
    rcases Nat.add_pos_iff_pos_or_pos.mp h with h | h
    · obtain ⟨h1, h2, h3⟩ := O_pos h; exact ⟨h1, h2, by omega⟩
    · obtain ⟨h1, h2, h3⟩ := owe1_pos h; exact ⟨by omega, h2, by omega⟩
/-- At its later waits of hop `r` it owes the later hops only. -/
theorem mayWait_rcv (c : Dev nD) (d : Bool) (s : Fin 3) (r : ℕ) (hr : r < 24) :
    (levAts L lv : sProp 𝕄) ⊢ MayWait (c : Thread nD τ) (.dma (rcvS d s)) r (O c (r + 1)) :=
  mayWait_below c _ r (2 * r + 2) _ hr (lv_rcv d s c r).le fun g u h => by
    obtain ⟨h1, h2, h3⟩ := O_pos h; exact ⟨h1, h2, by omega⟩
theorem mayWait_snd (c : Dev nD) (d : Bool) (s : Fin 3) (r : ℕ) (hr : r < 24) :
    (levAts L lv : sProp 𝕄) ⊢ MayWait (c : Thread nD τ) (.dma (sndS d s)) r (O c (r + 1)) :=
  mayWait_below c _ r 0 _ hr (lv_snd d s c r).le fun g u h => by
    obtain ⟨h1, h2, h3⟩ := O_pos h; exact ⟨h1, h2, by omega⟩
/-- The staging semaphores wait below everything. -/
theorem mayWait_stage (c : Dev nD) (q : DmaSem sig) (hq : useOf (.dma q) = .other) (r : ℕ) :
    (levAts L lv : sProp 𝕄) ⊢ MayWait (c : Thread nD τ) (.dma q) 0 (O c r) :=
  mayWait_below c _ 0 0 _ (by decide) (by unfold lv; rw [hq]) fun g u h => by
    obtain ⟨h1, h2, h3⟩ := O_pos h; exact ⟨h1, h2, by omega⟩

end Cert.KernelIdeal.TwoWay

end
-- ==== Proof.Steps.lean ====
/-
# The steps of a hop, one rule each

Each rule runs one effect of the kernel from what the protocol hands the device at that step.
-/
module

public import proofs.«01_k».proof.Proof.Proto
public import Idealize.ShloMosaic.Lib.ViewIndex

@[expose] public section

set_option maxRecDepth 16384

noncomputable section

namespace Cert.KernelIdeal.TwoWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-! ## All the cells -/

/-- A device's thirteen cells: its barrier, then send and receive per direction and hop. -/
abbrev csem (k : Option (Bool × Bool × Fin 3)) : SemLoc sig := match k with
  | none => .reg barS
  | some (true, d, s) => .dma (sndS d s)
  | some (false, d, s) => .dma (rcvS d s)
abbrev kcell (ck : Dev nD × Option (Bool × Bool × Fin 3)) : GSem nD τ sig := ((ck.1 : Thread nD τ), csem ck.2)

/-- What never changes: every cell's invariant, that every cell has reached round 0, and the levels. -/
def recs : sProp 𝕄 :=
  iprop((bigSep Finset.univ fun ck : Dev nD × Option (Bool × Bool × Fin 3) => iprop(∃ κ, cellInv ER (rd m) κ (kcell ck)))
    ∗ (bigSep Finset.univ fun ck : Dev nD × Option (Bool × Bool × Fin 3) => reached ER (kcell ck) 0) ∗ levAts L lv)

instance recs_persistent : BI.Persistent (recs (F := F) m) := by unfold recs; infer_instance

omit [FloatOps F] in
/-- One summand of a separating conjunction over every index. -/
theorem bigSep_one {I : Type} [Fintype I] [DecidableEq I] (Φ : I → sProp 𝕄) (i : I) : bigSep Finset.univ Φ ⊢ Φ i := bigSep_elim (Finset.mem_univ i)

theorem recs_inv (ck : Dev nD × Option (Bool × Bool × Fin 3)) : recs (F := F) m ⊢ iprop(∃ κ, cellInv ER (rd m) κ (kcell ck)) := by
  unfold recs
  iintro ⟨H, -⟩
  iapply (bigSep_one (fun ck : Dev nD × Option (Bool × Bool × Fin 3) => (iprop(∃ κ, cellInv ER (rd m) κ (kcell ck)) : sProp 𝕄)) ck)
  iexact H
theorem recs_bar (c : Dev nD) : recs (F := F) m ⊢ iprop(∃ κ, cellInv ER (rd m) κ (barCell c)) := recs_inv m (c, none)
theorem recs_snd (d : Bool) (s : Fin 3) (c : Dev nD) : recs (F := F) m ⊢ iprop(∃ κ, cellInv ER (rd m) κ (sndCell d s c)) := recs_inv m (c, some (true, d, s))
theorem recs_rcv (d : Bool) (s : Fin 3) (c : Dev nD) : recs (F := F) m ⊢ iprop(∃ κ, cellInv ER (rd m) κ (rcvCell d s c)) := recs_inv m (c, some (false, d, s))
theorem recs_reached (ck : Dev nD × Option (Bool × Bool × Fin 3)) : recs (F := F) m ⊢ reached ER (kcell ck) 0 := by
  unfold recs
  iintro ⟨-, H, -⟩
  iapply (bigSep_one (fun ck : Dev nD × Option (Bool × Bool × Fin 3) => (reached ER (kcell ck) 0 : sProp 𝕄)) ck)
  iexact H
theorem recs_lev : recs (F := F) m ⊢ levAts L lv := by
  unfold recs; iintro ⟨-, -, H⟩; iexact H

/-- What device `c` owes, whatever it has waited on. -/
def ow (c : Dev nD) (O' : CellTallies nD τ sig ℕ) : sProp 𝕄 := iprop(∃ W, owes (c : Thread nD τ) O' W)

section Steps

/-! ## The barrier -/

/-- One unit on the barrier of the device before `c` in direction `d`, with `c`'s landing slot of that direction. -/
theorem step_signal {Q : PUnit → sProp 𝕄} {k : PUnit → Prog (TpuEff nD τ sig (Elt F) Λ₀ .tc) PUnit} (d : Bool) (c n : Dev nD) (hn : n = orig d c) (j : ℕ) (s : Fin 3) (h : hop j s < 24) (O' : CellTallies nD τ sig ℕ) :
    iprop(recs m ∗ ow c (O' + tallyAt (barCell (orig d c)) (hop j s) 1) ∗ dutyTok ER (barCell (orig d c)) (hop j s) d
        ∗ (∃ X, own1 d (dstK s) c X) ∗ reached ER (rcvCell d s c) j ∗ reached ER (barCell (orig d c)) (hop j s))
      ⊢ iprop((ow c O' -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, Proc.tc) barS (1#32).toInt) k) Q) := by
  subst hn
  unfold ow
  iintro ⟨#HR, ⟨%W, HO⟩, Ht, Hs, #Hr, #Hb⟩ Hk
  ihave HI := (recs_bar m (orig d c)) $$ HR
  icases HI with ⟨%κ, #HI⟩
  iapply (Rounds.wp_signal 𝒱₀ ER (rd m) (c : Thread nD τ) none (dst := (orig d c : Thread nD τ)) (κ := κ) (r := hop j s)
      (d := d) (by rw [duties_bar m _ _ h]; exact Finset.mem_univ _) ((amount_bar m (orig d c) (hop j s) d).trans (by decide)) (hop j s) O' rfl)
    $$ [HO Ht Hs]
  · isplitr; · iexact HI
    isplitl [HO]; · iexact HO
    isplitl [Ht]; · iexact Ht
    isplitl [Hs]
    · rw [payload_bar]; unfold barPay; rw [dest_orig]
      isplitl [Hs]; · iexact Hs
      iexact Hr
    · iexact Hb
  iintro HO
  iapply Hk; iexists W; iexact HO

/-- The wait for both neighbours' units: their landing slots come with them. -/
theorem step_wait_bar {Q : PUnit → sProp 𝕄} {k : PUnit → Prog (TpuEff nD τ sig (Elt F) Λ₀ .tc) PUnit} (c : Dev nD) (j : ℕ) (s : Fin 3) (h : hop j s < 24) :
    iprop(recs m ∗ ow c (O c (hop j s + 1) + owe1 c (hop j s)) ∗ cred (tallyAt (barCell c) (hop j s) 2) ∗ atPos ER (barCell c) (hop j s) ∅ 0)
      ⊢ iprop(((ow c (O c (hop j s + 1) + owe1 c (hop j s)) ∗ atPos ER (barCell c) (hop j s + 1) ∅ 0 ∗ reached ER (barCell c) (hop j s + 1)
              ∗ barPay true c j s ∗ barPay false c j s)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (2#32).toNat) k) Q) := by
  unfold ow
  iintro ⟨#HR, ⟨%W, HO⟩, Hc, Ha⟩ Hk
  ihave HI := (recs_bar m c) $$ HR
  icases HI with ⟨%κ, #HI⟩
  iapply (Rounds.wp_wait_rest_token 𝒱₀ ER (rd m) (c : Thread nD τ) none (κ := κ)
      (wpE_semWait_eq 𝒱₀ (c : Thread nD τ) none Set.univ) (Set.mem_univ _) (hop j s) (O := O c (hop j s + 1) + owe1 c (hop j s)) (W := W) (R := hop j s) (m := 0) (T := ∅)
      (by rw [expect_bar m c _ h]; decide)) $$ [Hc HO Ha]
  · isplitr; · iexact HI
    isplitl [Hc]; · iexact Hc
    isplitl [HO]; · iexact HO
    isplitr
    · iapply (mayWait_bar c (hop j s) h)
      iapply (recs_lev m); iexact HR
    iexact Ha
  iintro ⟨HO, Ha, Hr, Hp⟩
  ihave Hp := (Entails.of_eq (rest_bar m c j s h)) $$ Hp
  iapply Hk
  isplitl [HO]; · iexists _; iexact HO
  isplitl [Ha]; · iexact Ha
  isplitl [Hr]; · iexact Hr
  iexact Hp

/-! ## The copies -/

omit [FloatOps F] in
/-- What a slot reads after the squeezed copy into it is what the source slot read. -/
theorem read_copied (A B : View sig .tc .vmem S1x1024x512 .f32) (h : S1024x512.numel = S1x1024x512.numel)
    (fd : B.ty.Contents (Elt F)) (fs : A.ty.Contents (Elt F)) :
    B.read (Elt F) ((B.reshape S1024x512 h).write (Elt F) fd ((A.reshape S1024x512 h).read (Elt F) fs) Finset.univ) = A.read (Elt F) fs := by
  funext y
  obtain ⟨x, rfl⟩ := (Shape.reshapeEquiv h).surjective y
  rw [View.read_write_reshape]
  rfl

omit [FloatOps F] in
/-- Owning a squeezed memref's elements is owning the memref's. -/
theorem pt_squeeze (A : Memref sig .tc .vmem S1x1024x512 .f32) (h : S1x1024x512.Squeezes S1024x512) (t : Dev nD) {q : PosShare TreeShare} (f : Buf (Elt F) (A.view.loc (t : Thread nD τ))) :
    ((A.squeeze S1024x512 h).view.loc (t : Thread nD τ) ↦[(A.squeeze S1024x512 h).view.set]{q} f : sProp 𝕄) = (A.view.loc (t : Thread nD τ) ↦[A.view.set]{q} f) := by
  have hs : (A.squeeze S1024x512 h).view.set = A.view.set := View.set_reshape ..
  exact congrArg (fun S => (A.view.loc (t : Thread nD τ) ↦[S]{q} f : sProp 𝕄)) hs

/-- The copy of hop `s` in direction `d`. -/
theorem step_send {Q : PUnit → sProp 𝕄} {k : PUnit → Prog (TpuEff nD τ sig (Elt F) Λ₀ .tc) PUnit} (d : Bool) (c n : Dev nD) (hn : n = dest d c) (j : ℕ) (s : Fin 3) (h : j < 8) (O' : CellTallies nD τ sig ℕ)
    (A B : Memref sig .tc .vmem S1x1024x512 .f32) (hA : A = slot d (!dstK s)) (hB : B = slot d (dstK s))
    (q₁ q₂ : DmaSem sig) (hq₁ : q₁ = sndS d s) (hq₂ : q₂ = rcvS d s)
    {hsc : (B.squeeze S1024x512 squeezes_S1x1024x512_S1024x512).view.ref.isScScratch = false}
    {hsrc : (A.squeeze S1024x512 squeezes_S1x1024x512_S1024x512).view.WordExact}
    {hdst : (B.squeeze S1024x512 squeezes_S1x1024x512_S1024x512).view.WordExact}
    {hsem : DmaTarget.Typed .vmem (.dma q₂) (.remote (Dev.tc n : Thread nD τ) (B.squeeze S1024x512 squeezes_S1x1024x512_S1024x512) (.dma q₁) hsc)} :
    iprop(recs m ∗ own1 d (!dstK s) c (sent m d s c j) ∗ barPay d c j s ∗ reached ER (barCell c) (hop j s + 1)
        ∗ ow c (O' + tallyAt (rcvCell d s (dest d c)) (hop j s) N)
        ∗ dutyTok ER (sndCell d s c) j true ∗ reached ER (sndCell d s c) j
        ∗ dutyTok ER (rcvCell d s (dest d c)) j true)
      ⊢ iprop(((cred (tallyAt (sndCell d s c) (hop j s) N) ∗ ow c O') -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (A.squeeze S1024x512 squeezes_S1x1024x512_S1024x512)
                (.remote (Dev.tc n : Thread nD τ) (B.squeeze S1024x512 squeezes_S1x1024x512_S1024x512) (.dma q₁) hsc) (.dma q₂) hsrc hdst hsem) k) Q) := by
  subst hn hA hB hq₁ hq₂
  unfold ow barPay own1 owns
  iintro ⟨#HR, ⟨%fs, %hfs, Hs⟩, ⟨⟨%X, %fd, -, Hd⟩, #Hrr⟩, #Hb, ⟨%W, HO⟩, Ht1, #Hr1, Ht2⟩ Hk
  ihave HI1 := (recs_snd m d s c) $$ HR
  icases HI1 with ⟨%κ₁, #HI1⟩
  ihave HI2 := (recs_rcv m d s (dest d c)) $$ HR
  icases HI2 with ⟨%κ₂, #HI2⟩
  iapply (Rounds.wp_send_pointsTo_with 𝒱₀ ER (rd m) (c : Thread nD τ) none (c' := (dest d c : Thread nD τ))
      (src := (slot d (!dstK s)).squeeze S1024x512 squeezes_S1x1024x512_S1024x512)
      (dst := (slot d (dstK s)).squeeze S1024x512 squeezes_S1x1024x512_S1024x512)
      (sS := .dma (sndS d s)) (sem := .dma (rcvS d s))
      (κ₁ := κ₁) (κ₂ := κ₂) (r₁ := j) (r₂ := j) (d₁ := true) (d₂ := true) (q := fullShare) (fs := fs) (fd := fd)
      (F := reached ER (barCell c) (hop j s + 1))
      (by rw [duties_snd m c d s j h]; exact Finset.mem_singleton_self _) (by rw [duties_rcv m (dest d c) d s j h]; exact Finset.mem_singleton_self _)
      (hop j s) (hop j s) N (N_eq d (dstK s)) (amount_snd m c d s j true) (amount_rcv m (dest d c) d s j true) O' rfl (W := W)
      (by
        rw [payload_snd]; unfold sndPay own1 owns
        refine (Entails.of_eq (pt_squeeze (slot d (!dstK s)) _ _ fs)).trans ?_
        iintro H; iexists fs
        isplitr; · ipureintro; exact hfs
        iexact H)
      (by
        rw [payload_rcv]; unfold rcvPay own1 owns
        rw [orig_dest]
        iintro ⟨H, #Hb⟩
        ihave H := (Entails.of_eq (pt_squeeze (slot d (dstK s)) _ _ _)) $$ H
        isplitl
        · iexists _
          isplitr
          rotate_left
          · iexact H
          · ipureintro; exact (read_copied (slot d (!dstK s)).view (slot d (dstK s)).view _ fd fs).trans hfs
        iexact Hb)) $$ [Hs Hd HO Ht1 Ht2]
  · isplitr; · iexact HI1
    isplitr; · iexact HI2
    isplitl [Hs]; · iapply (Entails.of_eq (pt_squeeze (slot d (!dstK s)) _ _ fs).symm); iexact Hs
    isplitl [Hd]
    · isplitl; · iapply (Entails.of_eq (pt_squeeze (slot d (dstK s)) _ _ fd).symm); iexact Hd
      iexact Hb
    isplitl [HO]; · iexact HO
    isplitl [Ht1]; · iexact Ht1
    isplitr; · iexact Hr1
    isplitl [Ht2]; · iexact Ht2
    iexact Hrr
  iintro ⟨Hc, HO⟩
  iapply Hk
  isplitl [Hc]; · iexact Hc
  iexists W; iexact HO

/-- The wait for the own copy to be read out: the source slot back. -/
theorem step_wait_snd {Q : PUnit → sProp 𝕄} {k : PUnit → Prog (TpuEff nD τ sig (Elt F) Λ₀ .tc) PUnit} (d : Bool) (c : Dev nD) (j : ℕ) (s : Fin 3) (h : hop j s < 24) (hj : j < 8)
    (q : DmaSem sig) (hq : q = sndS d s) {sA sB : Shape} {eA eB : EltTy} {spA spB : Space}
    (A : Memref sig .tc spA sA eA) (B : Memref sig .tc spB sB eB) (hB : B.view.dmaCredit = N)
    {hsrc : A.view.WordExact} {hdst : B.view.WordExact} :
    iprop(recs m ∗ ow c (O c (hop j s + 1)) ∗ cred (tallyAt (sndCell d s c) (hop j s) N) ∗ atPos ER (sndCell d s c) j ∅ 0)
      ⊢ iprop(((ow c (O c (hop j s + 1)) ∗ atPos ER (sndCell d s c) (j + 1) ∅ 0 ∗ reached ER (sndCell d s c) (j + 1)
              ∗ own1 d (!dstK s) c (sent m d s c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q A B hsrc hdst) k) Q) := by
  subst hq
  unfold ow
  iintro ⟨#HR, ⟨%W, HO⟩, Hc, Ha⟩ Hk
  ihave HI := (recs_snd m d s c) $$ HR
  icases HI with ⟨%κ, #HI⟩
  iapply (Rounds.wp_wait_rest_token 𝒱₀ ER (rd m) (c : Thread nD τ) none (κ := κ)
      (wpE_waitDma2_eq 𝒱₀ (c : Thread nD τ) none Set.univ) (Set.mem_univ _) (hop j s) (O := O c (hop j s + 1)) (W := W) (R := j) (m := 0) (T := ∅)
      (by rw [Nat.zero_add, expect_snd m c d s j hj, hB])) $$ [Hc HO Ha]
  · isplitr; · iexact HI
    isplitl [Hc]; · rw [hB]; iexact Hc
    isplitl [HO]; · iexact HO
    isplitr
    · iapply (mayWait_snd c d s (hop j s) h)
      iapply (recs_lev m); iexact HR
    iexact Ha
  iintro ⟨HO, Ha, Hr, Hp⟩
  ihave Hp := (Entails.of_eq (rest_snd m c d s j hj)) $$ Hp
  iapply Hk
  isplitl [HO]; · iexists _; iexact HO
  isplitl [Ha]; · iexact Ha
  isplitl [Hr]; · iexact Hr
  unfold sndPay
  iexact Hp

/-- The wait for a landing: the landing slot with the sender's sum in it. -/
theorem step_wait_rcv {Q : PUnit → sProp 𝕄} {k : PUnit → Prog (TpuEff nD τ sig (Elt F) Λ₀ .tc) PUnit} (d : Bool) (c : Dev nD) (j : ℕ) (s : Fin 3) (h : hop j s < 24) (hj : j < 8)
    (q : DmaSem sig) (hq : q = rcvS d s) {sA sB : Shape} {eA eB : EltTy} {spA spB : Space}
    (A : Memref sig .tc spA sA eA) (B : Memref sig .tc spB sB eB) (hB : B.view.dmaCredit = N)
    {hsrc : A.view.WordExact} {hdst : B.view.WordExact} :
    iprop(recs m ∗ ow c (O c (hop j s + 1)) ∗ cred (tallyAt (rcvCell d s c) (hop j s) N) ∗ atPos ER (rcvCell d s c) j ∅ 0)
      ⊢ iprop(((ow c (O c (hop j s + 1)) ∗ atPos ER (rcvCell d s c) (j + 1) ∅ 0 ∗ reached ER (rcvCell d s c) (j + 1)
              ∗ own1 d (dstK s) c (sent m d s (orig d c) j) ∗ reached ER (barCell (orig d c)) (hop j s + 1))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q A B hsrc hdst) k) Q) := by
  subst hq
  unfold ow
  iintro ⟨#HR, ⟨%W, HO⟩, Hc, Ha⟩ Hk
  ihave HI := (recs_rcv m d s c) $$ HR
  icases HI with ⟨%κ, #HI⟩
  iapply (Rounds.wp_wait_rest_token 𝒱₀ ER (rd m) (c : Thread nD τ) none (κ := κ)
      (wpE_waitDma2_eq 𝒱₀ (c : Thread nD τ) none Set.univ) (Set.mem_univ _) (hop j s) (O := O c (hop j s + 1)) (W := W) (R := j) (m := 0) (T := ∅)
      (by rw [Nat.zero_add, expect_rcv m c d s j hj, hB])) $$ [Hc HO Ha]
  · isplitr; · iexact HI
    isplitl [Hc]; · rw [hB]; iexact Hc
    isplitl [HO]; · iexact HO
    isplitr
    · iapply (mayWait_rcv c d s (hop j s) h)
      iapply (recs_lev m); iexact HR
    iexact Ha
  iintro ⟨HO, Ha, Hr, Hp⟩
  ihave Hp := (Entails.of_eq (rest_rcv m c d s j hj)) $$ Hp
  unfold rcvPay
  icases Hp with ⟨Hp, Hb⟩
  iapply Hk
  isplitl [HO]; · iexists _; iexact HO
  isplitl [Ha]; · iexact Ha
  isplitl [Hr]; · iexact Hr
  isplitl [Hp]; · iexact Hp
  iexact Hb

end Steps

/-! ## Loads and stores of owned memrefs -/

section Mem
variable (c : Dev nD) {s : Shape} {e : EltTy} (M : Memref sig .tc .vmem s e)

/-- A load from an owned memref reads its contents under the rectangle. -/
theorem load_own {q : PosShare TreeShare} (X : s.Idx → Elt F e) {r : Rect s} {hl : M.view.LoadsAt r.toLoadRect}
    {Q : PUnit → sProp 𝕄} {k : (r.shape.Idx → Elt F e) → Prog (TpuEff nD τ sig (Elt F) Λ₀ .tc) PUnit} :
    (owns (c : Thread nD τ) M q X : sProp 𝕄)
      ⊢ iprop((owns (c : Thread nD τ) M q X -∗ wp frame (wpE (defs₀ (F := F)) 𝒱₀ (c : Thread nD τ) none) Set.univ (k (fun x => X (r.emb x))) Q)
          -∗ wp frame (wpE (defs₀ (F := F)) 𝒱₀ (c : Thread nD τ) none) Set.univ (.op (.load M r.toLoadRect hl) k) Q) := by
  unfold owns
  iintro ⟨%f, %hf, H⟩ Hk
  subst hf
  iapply (wp_load 𝒱₀ (c : Thread nD τ) none Set.univ (m := M) (View.setOn_subset_set _ _)) $$ H
  iintro H
  iapply Hk
  iexists f
  isplitr; · ipureintro; rfl
  iexact H

/-- A load of a slice that is owned. -/
theorem load_slice {q : PosShare TreeShare} {r : Rect s} {h : ∀ a, r.stride a = 1} (X : r.shape.Idx → Elt F e) {hl : M.view.LoadsAt r.toLoadRect}
    {Q : PUnit → sProp 𝕄} {k : (r.shape.Idx → Elt F e) → Prog (TpuEff nD τ sig (Elt F) Λ₀ .tc) PUnit} :
    (owns (c : Thread nD τ) (M.slice r h) q X : sProp 𝕄)
      ⊢ iprop((owns (c : Thread nD τ) (M.slice r h) q X -∗ wp frame (wpE (defs₀ (F := F)) 𝒱₀ (c : Thread nD τ) none) Set.univ (k X) Q)
          -∗ wp frame (wpE (defs₀ (F := F)) 𝒱₀ (c : Thread nD τ) none) Set.univ (.op (.load M r.toLoadRect hl) k) Q) := by
  unfold owns
  iintro ⟨%f, %hf, H⟩ Hk
  subst hf
  iapply (wp_load_rect 𝒱₀ (c : Thread nD τ) none Set.univ (m := M) (r := r) (S := (M.slice r h).view.set) (f := f) (q := q) subset_rfl) $$ H
  iintro H
  iapply Hk
  iexists f
  isplitr; · ipureintro; rfl
  iexact H

/-- A store of a slice that is owned. -/
theorem store_slice {r : Rect s} {h : ∀ a, r.stride a = 1} (X w : r.shape.Idx → Elt F e)
    {hx : (M.access r).Stores Finset.univ} {hm : (Finset.univ : Finset r.shape.Idx) = Finset.univ ∨ ∀ a, r.stride a = 1}
    {Q : PUnit → sProp 𝕄} {k : PUnit → Prog (TpuEff nD τ sig (Elt F) Λ₀ .tc) PUnit} :
    (owns (c : Thread nD τ) (M.slice r h) fullShare X : sProp 𝕄)
      ⊢ iprop((owns (c : Thread nD τ) (M.slice r h) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold owns
  iintro ⟨%f, %hf, H⟩ Hk
  iapply (wp_store 𝒱₀ (c : Thread nD τ) none Set.univ (m := M) (r := r) (Mk := Finset.univ) (S := (M.slice r h).view.set) (f := f) subset_rfl) $$ H
  iintro H
  iapply Hk
  iexists _
  isplitr; · ipureintro; exact View.read_write_univ (v := (M.slice r h).view) f w
  iexact H

/-- A store into part of an owned memref. -/
theorem store_own {r : Rect s} (X : s.Idx → Elt F e) (w : r.shape.Idx → Elt F e)
    {hx : (M.access r).Stores Finset.univ} {hm : (Finset.univ : Finset r.shape.Idx) = Finset.univ ∨ ∀ a, r.stride a = 1}
    {Q : PUnit → sProp 𝕄} {k : PUnit → Prog (TpuEff nD τ sig (Elt F) Λ₀ .tc) PUnit} :
    (owns (c : Thread nD τ) M fullShare X : sProp 𝕄)
      ⊢ iprop((∀ Y, ⌜(∀ x, Y (r.emb x) = w x) ∧ ∀ y, (∀ x, r.emb x ≠ y) → Y y = X y⌝ -∗ owns (c : Thread nD τ) M fullShare Y
            -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold owns
  iintro ⟨%f, %hf, H⟩ Hk
  subst hf
  iapply (wp_store 𝒱₀ (c : Thread nD τ) none Set.univ (m := M) (r := r) (Mk := Finset.univ) (S := M.view.set) (f := f)
    (by rw [View.setOn_univ]; exact (View.set_slice M.view r).trans_subset (Finset.map_subset_map.mpr (Finset.subset_univ _)))) $$ H
  iintro H
  iapply Hk $$ %(M.view.read (Elt F) ((M.access r).write (Elt F) f w Finset.univ)) [] [H]
  · ipureintro
    refine ⟨fun x => ?_, fun y hy => ?_⟩
    · exact congrFun (View.read_write_univ (v := M.access r) f w) x
    · rw [View.read_apply, View.read_apply, View.write_of_not_mem]
      intro hm
      obtain ⟨x, -, hx⟩ := Finset.mem_map.mp hm
      exact hy x (M.view.emb.injective hx)
  · iexists _
    isplitr; · ipureintro; rfl
    iexact H

end Mem

end Cert.KernelIdeal.TwoWay

end
-- ==== Proof.Body.lean ====
/-
# One grid step on one device

The three hops of a step, each in two rules (up to the copies' start; the four waits), then the whole body.
-/
module

public import proofs.«01_k».proof.Proof.Steps

@[expose] public section

set_option maxRecDepth 65536

noncomputable section

namespace Cert.KernelIdeal.TwoWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## What a device holds -/

/-- What one direction of one hop uses up: the duty tokens of its barrier unit and of its copy, and the credit of the landing. -/
def dirRes (d : Bool) (c : Dev nD) (j : ℕ) (s : Fin 3) : sProp 𝕄 :=
  iprop(dutyTok ER (barCell (orig d c)) (hop j s) d ∗ dutyTok ER (sndCell d s c) j true ∗ dutyTok ER (rcvCell d s (dest d c)) j true
    ∗ cred (tallyAt (rcvCell d s c) (hop j s) N))
/-- What one hop uses up. -/
def hopRes (c : Dev nD) (j : ℕ) (s : Fin 3) : sProp 𝕄 :=
  iprop(dirRes true c j s ∗ dirRes false c j s ∗ cred (tallyAt (barCell c) (hop j s) 2))

/-- Where a device stands at its send and receive semaphores of one hop and direction. -/
def pos1 (d : Bool) (c : Dev nD) (j : ℕ) (s : Fin 3) : sProp 𝕄 :=
  iprop(atPos ER (sndCell d s c) j ∅ 0 ∗ reached ER (sndCell d s c) j ∗ atPos ER (rcvCell d s c) j ∅ 0 ∗ reached ER (rcvCell d s c) j)
def pos (c : Dev nD) (j : ℕ) (s : Fin 3) : sProp 𝕄 := iprop(pos1 true c j s ∗ pos1 false c j s)
/-- Where it stands at its barrier, and that both neighbours have come as far. -/
def barSt (c : Dev nD) (r : ℕ) : sProp 𝕄 :=
  iprop(atPos ER (barCell c) r ∅ 0 ∗ reached ER (barCell (orig true c)) r ∗ reached ER (barCell (orig false c)) r)

/-- Between a hop's copies and its waits. -/
def mid1 (d : Bool) (c : Dev nD) (j : ℕ) (s : Fin 3) : sProp 𝕄 :=
  iprop(cred (tallyAt (sndCell d s c) (hop j s) N) ∗ cred (tallyAt (rcvCell d s c) (hop j s) N) ∗ atPos ER (sndCell d s c) j ∅ 0 ∗ atPos ER (rcvCell d s c) j ∅ 0)
def mid (c : Dev nD) (j : ℕ) (s : Fin 3) (r : ℕ) : sProp 𝕄 :=
  iprop(mid1 true c j s ∗ mid1 false c j s ∗ atPos ER (barCell c) r ∅ 0)

/-- The slots of one direction before a hop's copy, and after its landing. -/
def slotsPre (d : Bool) (c : Dev nD) (j : ℕ) (s : Fin 3) : sProp 𝕄 := iprop(own1 d (!dstK s) c (sent m d s c j) ∗ ∃ X, own1 d (dstK s) c X)
def slotsPost (d : Bool) (c : Dev nD) (j : ℕ) (s : Fin 3) : sProp 𝕄 :=
  iprop(own1 d (!dstK s) c (sent m d s c j) ∗ own1 d (dstK s) c (sent m d s (orig d c) j))

/-! ## A hop -/

theorem owe_split (c : Dev nD) (r : ℕ) (h : r < 24) :
    O c r = O c (r + 1) + owe1 c r + tallyAt (barCell (orig false c)) r 1 + tallyAt (barCell (orig true c)) r 1 := by
  rw [O_peel c r h]; unfold owe
  rw [show orig false c = nxt c from rfl, show orig true c = prv c from rfl, add_comm _ (O c (r + 1)), ← add_assoc, ← add_assoc]

theorem owe1_split (c : Dev nD) (j : ℕ) (s : Fin 3) (R : CellTallies nD τ sig ℕ) :
    R + owe1 c (hop j s) = R + tallyAt (rcvCell false s (dest false c)) (hop j s) N + tallyAt (rcvCell true s (dest true c)) (hop j s) N := by
  unfold owe1
  rw [hop_mod, show dest false c = prv c from rfl, show dest true c = nxt c from rfl,
    add_comm (tallyAt (rcvCell true s (nxt c)) (hop j s) N) _, add_assoc]

/-- The barrier and the two copies of hop `s`. -/
theorem start_hop {Q : PUnit → sProp 𝕄} {K : Prog (TpuEff nD τ sig (Elt F) Λ₀ .tc) PUnit}
    (c : Dev nD) (j : ℕ) (s : Fin 3) (hj : j < 8) (h : hop j s < 24) (r : ℕ) (hr : hop j s + 1 = r)
    (n₁ n₂ n₃ n₄ : Dev nD) (e₁ : n₁ = prv c) (e₂ : n₂ = nxt c) (e₃ : n₃ = nxt c) (e₄ : n₄ = prv c)
    (A₁ B₁ A₂ B₂ : Memref sig .tc .vmem S1x1024x512 .f32)
    (hA₁ : A₁ = slot true (!dstK s)) (hB₁ : B₁ = slot true (dstK s)) (hA₂ : A₂ = slot false (!dstK s)) (hB₂ : B₂ = slot false (dstK s))
    (q₁ q₂ q₃ q₄ : DmaSem sig) (h₁ : q₁ = sndS true s) (h₂ : q₂ = rcvS true s) (h₃ : q₃ = sndS false s) (h₄ : q₄ = rcvS false s)
    {hsc₁ : (B₁.squeeze S1024x512 squeezes_S1x1024x512_S1024x512).view.ref.isScScratch = false}
    {hsrc₁ : (A₁.squeeze S1024x512 squeezes_S1x1024x512_S1024x512).view.WordExact}
    {hdst₁ : (B₁.squeeze S1024x512 squeezes_S1x1024x512_S1024x512).view.WordExact}
    {hsem₁ : DmaTarget.Typed .vmem (.dma q₂) (.remote (Dev.tc n₃ : Thread nD τ) (B₁.squeeze S1024x512 squeezes_S1x1024x512_S1024x512) (.dma q₁) hsc₁)}
    {hsc₂ : (B₂.squeeze S1024x512 squeezes_S1x1024x512_S1024x512).view.ref.isScScratch = false}
    {hsrc₂ : (A₂.squeeze S1024x512 squeezes_S1x1024x512_S1024x512).view.WordExact}
    {hdst₂ : (B₂.squeeze S1024x512 squeezes_S1x1024x512_S1024x512).view.WordExact}
    {hsem₂ : DmaTarget.Typed .vmem (.dma q₄) (.remote (Dev.tc n₄ : Thread nD τ) (B₂.squeeze S1024x512 squeezes_S1x1024x512_S1024x512) (.dma q₃) hsc₂)} :
    iprop(recs m ∗ ow c (O c (hop j s)) ∗ hopRes c j s ∗ pos c j s ∗ barSt c (hop j s) ∗ slotsPre m true c j s ∗ slotsPre m false c j s)
      ⊢ iprop(((ow c (O c r) ∗ mid c j s r) -∗ wp frame (wpE (defs₀ (F := F)) 𝒱₀ (c : Thread nD τ) none) Set.univ K Q)
          -∗ wp frame (wpE (defs₀ (F := F)) 𝒱₀ (c : Thread nD τ) none) Set.univ
              (.op (.semSignal (n₁, Proc.tc) barS (1#32).toInt) fun _ =>
               .op (.semSignal (n₂, Proc.tc) barS (1#32).toInt) fun _ =>
               .op (.semWait barS (2#32).toNat) fun _ =>
               .op (.enqueueDma (A₁.squeeze S1024x512 squeezes_S1x1024x512_S1024x512)
                (.remote (Dev.tc n₃ : Thread nD τ) (B₁.squeeze S1024x512 squeezes_S1x1024x512_S1024x512) (.dma q₁) hsc₁) (.dma q₂) hsrc₁ hdst₁ hsem₁) fun _ =>
               .op (.enqueueDma (A₂.squeeze S1024x512 squeezes_S1x1024x512_S1024x512)
                (.remote (Dev.tc n₄ : Thread nD τ) (B₂.squeeze S1024x512 squeezes_S1x1024x512_S1024x512) (.dma q₃) hsc₂) (.dma q₄) hsrc₂ hdst₂ hsem₂) fun _ => K) Q) := by
  subst hr
  unfold hopRes dirRes pos pos1 barSt slotsPre mid mid1
  iintro ⟨#HR, HO, ⟨⟨Tb1, Ts1, Tr1, C1⟩, ⟨Tb2, Ts2, Tr2, C2⟩, Cb⟩, ⟨⟨As1, #Rs1, Ar1, #Rr1⟩, ⟨As2, #Rs2, Ar2, #Rr2⟩⟩, ⟨Ab, #Rb1, #Rb2⟩, ⟨S1, D1⟩, ⟨S2, D2⟩⟩ Hk
  rw [owe_split c _ h]
  iapply (step_signal m true c n₁ e₁ j s h _) $$ [HO Tb1 D1]
  · isplitr; · iexact HR
    isplitl [HO]; · iexact HO
    isplitl [Tb1]; · iexact Tb1
    isplitl [D1]; · iexact D1
    isplitr; · iexact Rr1
    iexact Rb1
  iintro HO
  iapply (step_signal m false c n₂ e₂ j s h _) $$ [HO Tb2 D2]
  · isplitr; · iexact HR
    isplitl [HO]; · iexact HO
    isplitl [Tb2]; · iexact Tb2
    isplitl [D2]; · iexact D2
    isplitr; · iexact Rr2
    iexact Rb2
  iintro HO
  iapply (step_wait_bar m c j s h) $$ [HO Cb Ab]
  · isplitr; · iexact HR
    isplitl [HO]; · iexact HO
    isplitl [Cb]; · iexact Cb
    iexact Ab
  iintro ⟨HO, Ab, #Rb, P1, P2⟩
  rw [owe1_split c j s]
  iapply (step_send m true c n₃ e₃ j s hj _ A₁ B₁ hA₁ hB₁ q₁ q₂ h₁ h₂) $$ [HO S1 P1 Ts1 Tr1]
  · isplitr; · iexact HR
    isplitl [S1]; · iexact S1
    isplitl [P1]; · iexact P1
    isplitr; · iexact Rb
    isplitl [HO]; · iexact HO
    isplitl [Ts1]; · iexact Ts1
    isplitr; · iexact Rs1
    iexact Tr1
  iintro ⟨K1, HO⟩
  iapply (step_send m false c n₄ e₄ j s hj _ A₂ B₂ hA₂ hB₂ q₃ q₄ h₃ h₄) $$ [HO S2 P2 Ts2 Tr2]
  · isplitr; · iexact HR
    isplitl [S2]; · iexact S2
    isplitl [P2]; · iexact P2
    isplitr; · iexact Rb
    isplitl [HO]; · iexact HO
    isplitl [Ts2]; · iexact Ts2
    isplitr; · iexact Rs2
    iexact Tr2
  iintro ⟨K2, HO⟩
  iapply Hk
  isplitl [HO]; · iexact HO
  isplitl [K1 C1 As1 Ar1]
  · isplitl [K1]; · iexact K1
    isplitl [C1]; · iexact C1
    isplitl [As1]; · iexact As1
    iexact Ar1
  isplitl [K2 C2 As2 Ar2]
  · isplitl [K2]; · iexact K2
    isplitl [C2]; · iexact C2
    isplitl [As2]; · iexact As2
    iexact Ar2
  iexact Ab

/-- The four waits of hop `s`. -/
theorem finish_hop {Q : PUnit → sProp 𝕄} {K : Prog (TpuEff nD τ sig (Elt F) Λ₀ .tc) PUnit}
    (c : Dev nD) (j : ℕ) (s : Fin 3) (hj : j < 8) (h : hop j s < 24) (r : ℕ) (hr : hop j s + 1 = r)
    (q₁ q₂ q₃ q₄ : DmaSem sig) (h₁ : q₁ = sndS true s) (h₂ : q₂ = rcvS true s) (h₃ : q₃ = sndS false s) (h₄ : q₄ = rcvS false s)
    (A₁ A₂ A₃ A₄ : Memref sig .tc .vmem S1024x512 .f32) (B₁ B₂ B₃ B₄ : Memref sig .tc .vmem S1x1024x512 .f32)
    (hB₁ : B₁ = slot true (!dstK s)) (hB₂ : B₂ = slot true (dstK s)) (hB₃ : B₃ = slot false (!dstK s)) (hB₄ : B₄ = slot false (dstK s))
    {a₁ : A₁.view.WordExact} {b₁ : (B₁.squeeze S1024x512 squeezes_S1x1024x512_S1024x512).view.WordExact} {a₂ : A₂.view.WordExact} {b₂ : (B₂.squeeze S1024x512 squeezes_S1x1024x512_S1024x512).view.WordExact}
    {a₃ : A₃.view.WordExact} {b₃ : (B₃.squeeze S1024x512 squeezes_S1x1024x512_S1024x512).view.WordExact} {a₄ : A₄.view.WordExact} {b₄ : (B₄.squeeze S1024x512 squeezes_S1x1024x512_S1024x512).view.WordExact} :
    iprop(recs m ∗ ow c (O c r) ∗ mid c j s r)
      ⊢ iprop(((ow c (O c r) ∗ pos c (j + 1) s ∗ barSt c r ∗ slotsPost m true c j s ∗ slotsPost m false c j s)
              -∗ wp frame (wpE (defs₀ (F := F)) 𝒱₀ (c : Thread nD τ) none) Set.univ K Q)
          -∗ wp frame (wpE (defs₀ (F := F)) 𝒱₀ (c : Thread nD τ) none) Set.univ
              (.op (.waitDma2 q₁ A₁ (B₁.squeeze S1024x512 squeezes_S1x1024x512_S1024x512) a₁ b₁) fun _ => .op (.waitDma2 q₂ A₂ (B₂.squeeze S1024x512 squeezes_S1x1024x512_S1024x512) a₂ b₂) fun _ =>
               .op (.waitDma2 q₃ A₃ (B₃.squeeze S1024x512 squeezes_S1x1024x512_S1024x512) a₃ b₃) fun _ => .op (.waitDma2 q₄ A₄ (B₄.squeeze S1024x512 squeezes_S1x1024x512_S1024x512) a₄ b₄) fun _ => K) Q) := by
  subst hr hB₁ hB₂ hB₃ hB₄
  unfold mid mid1 pos pos1 barSt slotsPost
  iintro ⟨#HR, HO, ⟨⟨K1, C1, As1, Ar1⟩, ⟨K2, C2, As2, Ar2⟩, Ab⟩⟩ Hk
  iapply (step_wait_snd m true c j s h hj q₁ h₁ A₁ _ (N_eq true (!dstK s))) $$ [HO K1 As1]
  · isplitr; · iexact HR
    isplitl [HO]; · iexact HO
    isplitl [K1]; · iexact K1
    iexact As1
  iintro ⟨HO, As1, #Rs1, S1⟩
  iapply (step_wait_rcv m true c j s h hj q₂ h₂ A₂ _ (N_eq true (dstK s))) $$ [HO C1 Ar1]
  · isplitr; · iexact HR
    isplitl [HO]; · iexact HO
    isplitl [C1]; · iexact C1
    iexact Ar1
  iintro ⟨HO, Ar1, #Rr1, D1, #Rb1⟩
  iapply (step_wait_snd m false c j s h hj q₃ h₃ A₃ _ (N_eq false (!dstK s))) $$ [HO K2 As2]
  · isplitr; · iexact HR
    isplitl [HO]; · iexact HO
    isplitl [K2]; · iexact K2
    iexact As2
  iintro ⟨HO, As2, #Rs2, S2⟩
  iapply (step_wait_rcv m false c j s h hj q₄ h₄ A₄ _ (N_eq false (dstK s))) $$ [HO C2 Ar2]
  · isplitr; · iexact HR
    isplitl [HO]; · iexact HO
    isplitl [C2]; · iexact C2
    iexact Ar2
  iintro ⟨HO, Ar2, #Rr2, D2, #Rb2⟩
  iapply Hk
  isplitl [HO]; · iexact HO
  isplitl [As1 Ar1 As2 Ar2]
  · isplitl [As1 Ar1]
    · isplitl [As1]; · iexact As1
      isplitr; · iexact Rs1
      isplitl [Ar1]; · iexact Ar1
      iexact Rr1
    isplitl [As2]; · iexact As2
    isplitr; · iexact Rs2
    isplitl [Ar2]; · iexact Ar2
    iexact Rr2
  isplitl [Ab]
  · isplitl [Ab]; · iexact Ab
    isplitr; · iexact Rb1
    iexact Rb2
  isplitl [S1 D1]
  · isplitl [S1]; · iexact S1
    iexact D1
  isplitl [S2]; · iexact S2
  iexact D2

/-! ## The loads and stores of a step -/

theorem load_a0 {Q : PUnit → sProp 𝕄} (c : Dev nD) (X : Vec F S1x1024x512 .f32) {hl : aM.view.LoadsAt rS0.toLoadRect}
    {k : (rS0.shape.Idx → Elt F .f32) → Prog (TpuEff nD τ sig (Elt F) Λ₀ .tc) PUnit} :
    (own1 true false c X : sProp 𝕄) ⊢ iprop((own1 true false c X -∗ wp frame (wpE (defs₀ (F := F)) 𝒱₀ (c : Thread nD τ) none) Set.univ (k X) Q)
      -∗ wp frame (wpE (defs₀ (F := F)) 𝒱₀ (c : Thread nD τ) none) Set.univ (.op (.load aM rS0.toLoadRect hl) k) Q) :=
  load_slice c aM (r := rS0) (h := fun _ => rfl) X
theorem store_a0 {Q : PUnit → sProp 𝕄} (c : Dev nD) (X w w' : Vec F S1x1024x512 .f32) (hw : w = w') {hx : (aM.access rS0).Stores Finset.univ}
    {hm : (Finset.univ : Finset rS0.shape.Idx) = Finset.univ ∨ ∀ a, rS0.stride a = 1}
    {k : PUnit → Prog (TpuEff nD τ sig (Elt F) Λ₀ .tc) PUnit} :
    (own1 true false c X : sProp 𝕄) ⊢ iprop((own1 true false c w' -∗ wp frame (wpE (defs₀ (F := F)) 𝒱₀ (c : Thread nD τ) none) Set.univ (k ⟨⟩) Q)
      -∗ wp frame (wpE (defs₀ (F := F)) 𝒱₀ (c : Thread nD τ) none) Set.univ (.op (.store aM rS0 w Finset.univ hx hm) k) Q) :=
  hw ▸ store_slice c aM (r := rS0) (h := fun _ => rfl) X w

theorem load_a1 {Q : PUnit → sProp 𝕄} (c : Dev nD) (X : Vec F S1x1024x512 .f32) {hl : aM.view.LoadsAt rS1.toLoadRect}
    {k : (rS1.shape.Idx → Elt F .f32) → Prog (TpuEff nD τ sig (Elt F) Λ₀ .tc) PUnit} :
    (own1 true true c X : sProp 𝕄) ⊢ iprop((own1 true true c X -∗ wp frame (wpE (defs₀ (F := F)) 𝒱₀ (c : Thread nD τ) none) Set.univ (k X) Q)
      -∗ wp frame (wpE (defs₀ (F := F)) 𝒱₀ (c : Thread nD τ) none) Set.univ (.op (.load aM rS1.toLoadRect hl) k) Q) :=
  load_slice c aM (r := rS1) (h := fun _ => rfl) X
theorem store_a1 {Q : PUnit → sProp 𝕄} (c : Dev nD) (X w w' : Vec F S1x1024x512 .f32) (hw : w = w') {hx : (aM.access rS1).Stores Finset.univ}
    {hm : (Finset.univ : Finset rS1.shape.Idx) = Finset.univ ∨ ∀ a, rS1.stride a = 1}
    {k : PUnit → Prog (TpuEff nD τ sig (Elt F) Λ₀ .tc) PUnit} :
    (own1 true true c X : sProp 𝕄) ⊢ iprop((own1 true true c w' -∗ wp frame (wpE (defs₀ (F := F)) 𝒱₀ (c : Thread nD τ) none) Set.univ (k ⟨⟩) Q)
      -∗ wp frame (wpE (defs₀ (F := F)) 𝒱₀ (c : Thread nD τ) none) Set.univ (.op (.store aM rS1 w Finset.univ hx hm) k) Q) :=
  hw ▸ store_slice c aM (r := rS1) (h := fun _ => rfl) X w

theorem load_b0 {Q : PUnit → sProp 𝕄} (c : Dev nD) (X : Vec F S1x1024x512 .f32) {hl : bM.view.LoadsAt rS0.toLoadRect}
    {k : (rS0.shape.Idx → Elt F .f32) → Prog (TpuEff nD τ sig (Elt F) Λ₀ .tc) PUnit} :
    (own1 false false c X : sProp 𝕄) ⊢ iprop((own1 false false c X -∗ wp frame (wpE (defs₀ (F := F)) 𝒱₀ (c : Thread nD τ) none) Set.univ (k X) Q)
      -∗ wp frame (wpE (defs₀ (F := F)) 𝒱₀ (c : Thread nD τ) none) Set.univ (.op (.load bM rS0.toLoadRect hl) k) Q) :=
  load_slice c bM (r := rS0) (h := fun _ => rfl) X
theorem store_b0 {Q : PUnit → sProp 𝕄} (c : Dev nD) (X w w' : Vec F S1x1024x512 .f32) (hw : w = w') {hx : (bM.access rS0).Stores Finset.univ}
    {hm : (Finset.univ : Finset rS0.shape.Idx) = Finset.univ ∨ ∀ a, rS0.stride a = 1}
    {k : PUnit → Prog (TpuEff nD τ sig (Elt F) Λ₀ .tc) PUnit} :
    (own1 false false c X : sProp 𝕄) ⊢ iprop((own1 false false c w' -∗ wp frame (wpE (defs₀ (F := F)) 𝒱₀ (c : Thread nD τ) none) Set.univ (k ⟨⟩) Q)
      -∗ wp frame (wpE (defs₀ (F := F)) 𝒱₀ (c : Thread nD τ) none) Set.univ (.op (.store bM rS0 w Finset.univ hx hm) k) Q) :=
  hw ▸ store_slice c bM (r := rS0) (h := fun _ => rfl) X w

theorem load_b1 {Q : PUnit → sProp 𝕄} (c : Dev nD) (X : Vec F S1x1024x512 .f32) {hl : bM.view.LoadsAt rS1.toLoadRect}
    {k : (rS1.shape.Idx → Elt F .f32) → Prog (TpuEff nD τ sig (Elt F) Λ₀ .tc) PUnit} :
    (own1 false true c X : sProp 𝕄) ⊢ iprop((own1 false true c X -∗ wp frame (wpE (defs₀ (F := F)) 𝒱₀ (c : Thread nD τ) none) Set.univ (k X) Q)
      -∗ wp frame (wpE (defs₀ (F := F)) 𝒱₀ (c : Thread nD τ) none) Set.univ (.op (.load bM rS1.toLoadRect hl) k) Q) :=
  load_slice c bM (r := rS1) (h := fun _ => rfl) X
theorem store_b1 {Q : PUnit → sProp 𝕄} (c : Dev nD) (X w w' : Vec F S1x1024x512 .f32) (hw : w = w') {hx : (bM.access rS1).Stores Finset.univ}
    {hm : (Finset.univ : Finset rS1.shape.Idx) = Finset.univ ∨ ∀ a, rS1.stride a = 1}
    {k : PUnit → Prog (TpuEff nD τ sig (Elt F) Λ₀ .tc) PUnit} :
    (own1 false true c X : sProp 𝕄) ⊢ iprop((own1 false true c w' -∗ wp frame (wpE (defs₀ (F := F)) 𝒱₀ (c : Thread nD τ) none) Set.univ (k ⟨⟩) Q)
      -∗ wp frame (wpE (defs₀ (F := F)) 𝒱₀ (c : Thread nD τ) none) Set.univ (.op (.store bM rS1 w Finset.univ hx hm) k) Q) :=
  hw ▸ store_slice c bM (r := rS1) (h := fun _ => rfl) X w

theorem load_x {Q : PUnit → sProp 𝕄} (c : Dev nD) (j : ℕ) (M : Memref sig .tc .vmem S4096x1024 .f32) (off : Fin 2 → ℕ) (h : ∀ a, off a + S1024x1024.size a ≤ S4096x1024.size a)
    {hl : M.view.LoadsAt (Rect.unit (s := S4096x1024) off S1024x1024.size h).toLoadRect} {k : ((Rect.unit (s := S4096x1024) off S1024x1024.size h).shape.Idx → Elt F .f32) → Prog (TpuEff nD τ sig (Elt F) Λ₀ .tc) PUnit} :
    (owns (c : Thread nD τ) M fullShare (xs m c j) : sProp 𝕄)
      ⊢ iprop((owns (c : Thread nD τ) M fullShare (xs m c j) -∗ wp frame (wpE (defs₀ (F := F)) 𝒱₀ (c : Thread nD τ) none) Set.univ (k (xr m c j off h)) Q)
        -∗ wp frame (wpE (defs₀ (F := F)) 𝒱₀ (c : Thread nD τ) none) Set.univ (.op (.load M (Rect.unit (s := S4096x1024) off S1024x1024.size h).toLoadRect hl) k) Q) :=
  load_own c M (r := Rect.unit (s := S4096x1024) off S1024x1024.size h) (xs m c j)

theorem load_wl {Q : PUnit → sProp 𝕄} (c : Dev nD) (j : ℕ) (M : Memref sig .tc .vmem S1024x1024 .f32)
    {hl : M.view.LoadsAt (Rect.unit (s := S1024x1024) ![0, 0] S1024x512.size inb_S1024x1024_S1024x512_0_0).toLoadRect} {k : ((Rect.unit (s := S1024x1024) ![0, 0] S1024x512.size inb_S1024x1024_S1024x512_0_0).shape.Idx → Elt F .f32) → Prog (TpuEff nD τ sig (Elt F) Λ₀ .tc) PUnit} :
    (owns (c : Thread nD τ) M fullShare (ws m c j) : sProp 𝕄)
      ⊢ iprop((owns (c : Thread nD τ) M fullShare (ws m c j) -∗ wp frame (wpE (defs₀ (F := F)) 𝒱₀ (c : Thread nD τ) none) Set.univ (k (wl m c j)) Q)
        -∗ wp frame (wpE (defs₀ (F := F)) 𝒱₀ (c : Thread nD τ) none) Set.univ (.op (.load M (Rect.unit (s := S1024x1024) ![0, 0] S1024x512.size inb_S1024x1024_S1024x512_0_0).toLoadRect hl) k) Q) :=
  load_own c M (r := Rect.unit (s := S1024x1024) ![0, 0] S1024x512.size inb_S1024x1024_S1024x512_0_0) (ws m c j)

theorem load_wr {Q : PUnit → sProp 𝕄} (c : Dev nD) (j : ℕ) (M : Memref sig .tc .vmem S1024x1024 .f32)
    {hl : M.view.LoadsAt (Rect.unit (s := S1024x1024) ![0, 512] S1024x512.size inb_S1024x1024_S1024x512_0_512).toLoadRect} {k : ((Rect.unit (s := S1024x1024) ![0, 512] S1024x512.size inb_S1024x1024_S1024x512_0_512).shape.Idx → Elt F .f32) → Prog (TpuEff nD τ sig (Elt F) Λ₀ .tc) PUnit} :
    (owns (c : Thread nD τ) M fullShare (ws m c j) : sProp 𝕄)
      ⊢ iprop((owns (c : Thread nD τ) M fullShare (ws m c j) -∗ wp frame (wpE (defs₀ (F := F)) 𝒱₀ (c : Thread nD τ) none) Set.univ (k (wr m c j)) Q)
        -∗ wp frame (wpE (defs₀ (F := F)) 𝒱₀ (c : Thread nD τ) none) Set.univ (.op (.load M (Rect.unit (s := S1024x1024) ![0, 512] S1024x512.size inb_S1024x1024_S1024x512_0_512).toLoadRect hl) k) Q) :=
  load_own c M (r := Rect.unit (s := S1024x1024) ![0, 512] S1024x512.size inb_S1024x1024_S1024x512_0_512) (ws m c j)

/-- The left and the right half of a result block. -/
abbrev rL : Rect S1024x1024 := Rect.unit (s := S1024x1024) ![0, 0] S1024x512.size inb_S1024x1024_S1024x512_0_0
abbrev rR : Rect S1024x1024 := Rect.unit (s := S1024x1024) ![0, 512] S1024x512.size inb_S1024x1024_S1024x512_0_512

/-- A block written in its two halves. -/
theorem outAt_of (c : Dev nD) (j : ℕ) (Y Z : S1024x1024.Idx → Elt F .f32) (hY : ∀ x, Y (rL.emb x) = outl m c j x)
    (hZ : ∀ x, Z (rR.emb x) = outr m c j x) (hZY : ∀ y, (∀ x, rR.emb x ≠ y) → Z y = Y y) : Z = outAt m c j := by
  funext x
  unfold outAt
  split
  next h =>
    rw [hZY x (fun z hz => by
      have h1 : (rR.emb z 1).val = (x 1).val := by rw [hz]
      have h2 : (rR.emb z 1).val = 512 + 1 * (z 1).val := rfl
      omega)]
    rw [← hY]
    refine congrArg Y (funext fun a => ?_)
    refine Fin.ext ?_
    fin_cases a
    · show (x 0).val = 0 + 1 * (x 0).val; omega
    · show (x 1).val = 0 + 1 * (x 1).val; omega
  next h =>
    rw [← hZ]
    refine congrArg Z (funext fun a => ?_)
    refine Fin.ext ?_
    fin_cases a
    · show (x 0).val = 0 + 1 * (x 0).val; omega
    · show (x 1).val = 512 + 1 * ((x 1).val - 512); omega

/-! ## The sums, one equation per direction and hop -/

theorem sent_t0 (c : Dev nD) (j : ℕ) : k0_pay2 (xr m c j (k0_off1 c) (k0_off1_inb c)) (wl m c j) = sent m true 0 c j := by
  simp only [sent, sent0]
theorem sent_f0 (c : Dev nD) (j : ℕ) : k0_pay3 (xr m c j (k0_off2 c) (k0_off2_inb c)) (wr m c j) = sent m false 0 c j := by
  simp only [sent, sent0]
theorem sent_t1 (c : Dev nD) (j : ℕ) :
    k0_pay6 (k0_pay4 (xr m c j (k0_off3 c 0#32) (k0_off3_inb c 0)) (wl m c j)) (sent m true 0 (orig true c) j) = sent m true 1 c j := by
  simp only [sent, sent1, part, orig, if_true]
theorem sent_f1 (c : Dev nD) (j : ℕ) :
    k0_pay7 (k0_pay5 (xr m c j (k0_off4 c 0#32) (k0_off4_inb c 0)) (wr m c j)) (sent m false 0 (orig false c) j) = sent m false 1 c j := by
  simp only [sent, sent1, part, orig, Bool.false_eq_true, if_false]
theorem sent_t2 (c : Dev nD) (j : ℕ) :
    k0_pay10 (k0_pay8 (xr m c j (k0_off3 c 1#32) (k0_off3_inb c 1)) (wl m c j)) (sent m true 1 (orig true c) j) = sent m true 2 c j := by
  simp only [sent, sent2, part, orig, if_true]
theorem sent_f2 (c : Dev nD) (j : ℕ) :
    k0_pay11 (k0_pay9 (xr m c j (k0_off4 c 1#32) (k0_off4_inb c 1)) (wr m c j)) (sent m false 1 (orig false c) j) = sent m false 2 c j := by
  simp only [sent, sent2, part, orig, Bool.false_eq_true, if_false]
theorem outl_eq (c : Dev nD) (j : ℕ) :
    k0_pay15 (k0_pay13 (k0_pay12 (xr m c j (k0_off3 c 2#32) (k0_off3_inb c 2))) (wl m c j)) (sent m true 2 (orig true c) j) = outl m c j := by
  simp only [outl, sent, part, orig, if_true]
theorem outr_eq (c : Dev nD) (j : ℕ) :
    k0_pay1 (k0_pay16 (k0_pay14 (xr m c j (k0_off4 c 2#32) (k0_off4_inb c 2)) (wr m c j)) (sent m false 2 (orig false c) j)) k0_pay17 = outr m c j := by
  simp only [outr, sent, part, orig, Bool.false_eq_true, if_false]

/-- A store into part of a result block, the stored value named. -/
theorem store_half {Q : PUnit → sProp 𝕄} (c : Dev nD) (M : Memref sig .tc .vmem S1024x1024 .f32) (r : Rect S1024x1024) (X : S1024x1024.Idx → Elt F .f32)
    (w w' : r.shape.Idx → Elt F .f32) (hw : w = w')
    {hx : (M.access r).Stores Finset.univ} {hm : (Finset.univ : Finset r.shape.Idx) = Finset.univ ∨ ∀ a, r.stride a = 1}
    {k : PUnit → Prog (TpuEff nD τ sig (Elt F) Λ₀ .tc) PUnit} :
    (owns (c : Thread nD τ) M fullShare X : sProp 𝕄)
      ⊢ iprop((∀ Y, ⌜(∀ x, Y (r.emb x) = w' x) ∧ ∀ y, (∀ x, r.emb x ≠ y) → Y y = X y⌝ -∗ owns (c : Thread nD τ) M fullShare Y
            -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) :=
  hw ▸ store_own c M X w

/-! ## The body -/

/-- Where a device stands between two steps: its positions, and the four slots at any contents. -/
def st (c : Dev nD) (j : ℕ) : sProp 𝕄 :=
  iprop(pos c j 0 ∗ pos c j 1 ∗ pos c j 2 ∗ barSt c (hop j 0)
    ∗ (∃ X, own1 true false c X) ∗ (∃ X, own1 true true c X) ∗ (∃ X, own1 false false c X) ∗ (∃ X, own1 false true c X))
/-- What a step uses up. -/
def res (c : Dev nD) (j : ℕ) : sProp 𝕄 := iprop(hopRes c j 0 ∗ hopRes c j 1 ∗ hopRes c j 2)

set_option maxHeartbeats 4000000 in
/-- One step: the three hops, each with its two partial products, and the result block. -/
theorem sound_body (c : Dev nD) (j : ℕ) (hj : j < 8) (i : grid0.Coords) (M1 : Memref sig .tc .vmem S4096x1024 .f32) (h1 : M1.IsWhole)
    (M2 : Memref sig .tc .vmem S1024x1024 .f32) (h2 : M2.IsWhole) (M3 : Memref sig .tc .vmem S1024x1024 .f32) (h3 : M3.IsWhole)
    (Y : S1024x1024.Idx → Elt F .f32) (Kt : PUnit → sProp 𝕄) :
    iprop((recs m ∗ ow c (O c (hop j 0)) ∗ st c j ∗ res c j
        ∗ owns (c : Thread nD τ) M1 fullShare (xs m c j) ∗ owns (c : Thread nD τ) M2 fullShare (ws m c j) ∗ owns (c : Thread nD τ) M3 fullShare Y)
      ∗ ((ow c (O c (hop (j + 1) 0)) ∗ st c (j + 1)
        ∗ owns (c : Thread nD τ) M1 fullShare (xs m c j) ∗ owns (c : Thread nD τ) M2 fullShare (ws m c j) ∗ owns (c : Thread nD τ) M3 fullShare (outAt m c j)) -∗ |={Set.univ}=> Kt ⟨⟩))
      ⊢ wp frame (wpE (defs₀ (F := F)) 𝒱₀ (c : Thread nD τ) none) Set.univ
          (cc0_body i M1 h1 M2 h2 M3 h3 (Memref.whole cc0_scratch0) (Memref.isWhole_whole _) (Memref.whole cc0_scratch1) (Memref.isWhole_whole _)
            cc0_scratch2 cc0_scratch3 cc0_scratch4 cc0_scratch5) Kt := by
  have hh0 : hop j 0 < 24 := by show 3 * j + 0 < 24; omega
  have hh1 : hop j 1 < 24 := by show 3 * j + 1 < 24; omega
  have hh2 : hop j 2 < 24 := by show 3 * j + 2 < 24; omega
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  simp only [k0_part1_skel, semSignalWord, semWaitWord, Prog.lift, Prog.bind_op, Prog.bind_ret, Prog.pure_eq_ret, wp_deviceId]
  simp only [k0_part2_skel, k0_part3_skel, k0_part4_skel, k0_part5_skel, k0_part6_skel, semSignalWord, semWaitWord, Prog.lift, Prog.bind_op, Prog.bind_ret, Prog.pure_eq_ret]
  simp only [k0_part7_skel, k0_part8_skel, k0_part9_skel, k0_part10_skel, k0_part11_skel, k0_part12_skel, k0_part13_skel, semSignalWord, semWaitWord, Prog.lift, Prog.bind_op, Prog.bind_ret, Prog.pure_eq_ret]
  unfold st res
  iintro ⟨⟨#HR, HO, ⟨P0, P1, P2, B, ⟨%Xa0, A0⟩, ⟨%Xa1, A1⟩, ⟨%Xb0, B0⟩, ⟨%Xb1, B1⟩⟩, ⟨R0, R1, R2⟩, Hx, Hw, Ho⟩, Hk⟩
  -- the first partial products
  iapply (load_x m c j M1 _ _) $$ Hx; iintro Hx
  iapply (load_wl m c j M2) $$ Hw; iintro Hw
  iapply (load_a0 c Xa0) $$ A0; iintro A0
  iapply (store_a0 c Xa0 _ _ (sent_t0 m c j)) $$ A0; iintro A0
  iapply (load_x m c j M1 _ _) $$ Hx; iintro Hx
  iapply (load_wr m c j M2) $$ Hw; iintro Hw
  iapply (load_b0 c Xb0) $$ B0; iintro B0
  iapply (store_b0 c Xb0 _ _ (sent_f0 m c j)) $$ B0; iintro B0
  -- hop 0
  iapply (start_hop m c j 0 hj hh0 (hop j 1) rfl _ _ _ _ (dev1_eq c) (dev2_eq c) (dev3_eq c) (dev4_eq c) _ _ _ _ rfl rfl rfl rfl
    _ _ _ _ sem5 sem8 sem11 sem14) $$ [HO R0 P0 B A0 A1 B0 B1]
  · isplitr; · iexact HR
    isplitl [HO]; · iexact HO
    isplitl [R0]; · iexact R0
    isplitl [P0]; · iexact P0
    isplitl [B]; · iexact B
    unfold slotsPre
    isplitl [A0 A1]
    · isplitl [A0]; · iexact A0
      iexists Xa1; iexact A1
    isplitl [B0]; · iexact B0
    iexists Xb1; iexact B1
  iintro ⟨HO, Hm⟩
  iapply (load_x m c j M1 _ _) $$ Hx; iintro Hx
  iapply (load_wl m c j M2) $$ Hw; iintro Hw
  iapply (load_x m c j M1 _ _) $$ Hx; iintro Hx
  iapply (load_wr m c j M2) $$ Hw; iintro Hw
  iapply (finish_hop m c j 0 hj hh0 (hop j 1) rfl _ _ _ _ sem5 sem8 sem11 sem14 _ _ _ _ _ _ _ _ rfl rfl rfl rfl) $$ [HO Hm]
  · isplitr; · iexact HR
    isplitl [HO]; · iexact HO
    iexact Hm
  unfold slotsPost
  iintro ⟨HO, P0, B, ⟨A0, A1⟩, ⟨B0, B1⟩⟩
  iapply (load_a1 c _) $$ A1; iintro A1
  iapply (load_a1 c _) $$ A1; iintro A1
  iapply (store_a1 c _ _ _ (sent_t1 m c j)) $$ A1; iintro A1
  iapply (load_b1 c _) $$ B1; iintro B1
  iapply (load_b1 c _) $$ B1; iintro B1
  iapply (store_b1 c _ _ _ (sent_f1 m c j)) $$ B1; iintro B1
  -- hop 1
  iapply (start_hop m c j 1 hj hh1 (hop j 2) rfl _ _ _ _ (dev5_eq c) (dev6_eq c) (dev7_eq c) (dev8_eq c) _ _ _ _ rfl rfl rfl rfl
    _ _ _ _ sem6 sem9 sem12 sem15) $$ [HO R1 P1 B A0 A1 B0 B1]
  · isplitr; · iexact HR
    isplitl [HO]; · iexact HO
    isplitl [R1]; · iexact R1
    isplitl [P1]; · iexact P1
    isplitl [B]; · iexact B
    unfold slotsPre
    isplitl [A0 A1]
    · isplitl [A1]; · iexact A1
      iexists _; iexact A0
    isplitl [B1]; · iexact B1
    iexists _; iexact B0
  iintro ⟨HO, Hm⟩
  iapply (load_x m c j M1 _ _) $$ Hx; iintro Hx
  iapply (load_wl m c j M2) $$ Hw; iintro Hw
  iapply (load_x m c j M1 _ _) $$ Hx; iintro Hx
  iapply (load_wr m c j M2) $$ Hw; iintro Hw
  iapply (finish_hop m c j 1 hj hh1 (hop j 2) rfl _ _ _ _ sem6 sem9 sem12 sem15 _ _ _ _ _ _ _ _ rfl rfl rfl rfl) $$ [HO Hm]
  · isplitr; · iexact HR
    isplitl [HO]; · iexact HO
    iexact Hm
  unfold slotsPost
  iintro ⟨HO, P1, B, ⟨A1, A0⟩, ⟨B1, B0⟩⟩
  iapply (load_a0 c _) $$ A0; iintro A0
  iapply (load_a0 c _) $$ A0; iintro A0
  iapply (store_a0 c _ _ _ (sent_t2 m c j)) $$ A0; iintro A0
  iapply (load_b0 c _) $$ B0; iintro B0
  iapply (load_b0 c _) $$ B0; iintro B0
  iapply (store_b0 c _ _ _ (sent_f2 m c j)) $$ B0; iintro B0
  -- hop 2
  iapply (start_hop m c j 2 hj hh2 (hop (j + 1) 0) rfl _ _ _ _ (dev9_eq c) (dev10_eq c) (dev11_eq c) (dev12_eq c) _ _ _ _ rfl rfl rfl rfl
    _ _ _ _ sem7 sem10 sem13 sem16) $$ [HO R2 P2 B A0 A1 B0 B1]
  · isplitr; · iexact HR
    isplitl [HO]; · iexact HO
    isplitl [R2]; · iexact R2
    isplitl [P2]; · iexact P2
    isplitl [B]; · iexact B
    unfold slotsPre
    isplitl [A0 A1]
    · isplitl [A0]; · iexact A0
      iexists _; iexact A1
    isplitl [B0]; · iexact B0
    iexists _; iexact B1
  iintro ⟨HO, Hm⟩
  iapply (load_x m c j M1 _ _) $$ Hx; iintro Hx
  iapply (load_wl m c j M2) $$ Hw; iintro Hw
  iapply (load_x m c j M1 _ _) $$ Hx; iintro Hx
  iapply (load_wr m c j M2) $$ Hw; iintro Hw
  iapply (finish_hop m c j 2 hj hh2 (hop (j + 1) 0) rfl _ _ _ _ sem7 sem10 sem13 sem16 _ _ _ _ _ _ _ _ rfl rfl rfl rfl) $$ [HO Hm]
  · isplitr; · iexact HR
    isplitl [HO]; · iexact HO
    iexact Hm
  unfold slotsPost
  iintro ⟨HO, P2, B, ⟨A0, A1⟩, ⟨B0, B1⟩⟩
  -- the result block
  iapply (load_a1 c _) $$ A1; iintro A1
  iapply (load_own c M3 _) $$ Ho; iintro Ho
  iapply (store_half c M3 rL _ _ _ (outl_eq m c j)) $$ Ho; iintro %Y1 %hY1 Ho
  iapply (load_b1 c _) $$ B1; iintro B1
  iapply (load_own c M3 _) $$ Ho; iintro Ho
  iapply (store_half c M3 rR _ _ _ (outr_eq m c j)) $$ Ho; iintro %Y2 %hY2 Ho
  rw [wp_ret]
  iapply Hk
  isplitl [HO]; · iexact HO
  isplitl [P0 P1 P2 B A0 A1 B0 B1]
  · isplitl [P0]; · iexact P0
    isplitl [P1]; · iexact P1
    isplitl [P2]; · iexact P2
    isplitl [B]; · iexact B
    isplitl [A0]; · iexists _; iexact A0
    isplitl [A1]; · iexists _; iexact A1
    isplitl [B0]; · iexists _; iexact B0
    iexists _; iexact B1
  isplitl [Hx]; · iexact Hx
  isplitl [Hw]; · iexact Hw
  rw [← outAt_of m c j Y1 Y2 hY1.1 hY2.1 hY2.2]
  iexact Ho

end Cert.KernelIdeal.TwoWay

end
-- ==== Proof.Start.lean ====
/-
# The launch

What the launch deals every device: its positions, the tokens of the duties it pays (dealt around the ring), its credits.
-/
module

public import proofs.«01_k».proof.Proof.Body

@[expose] public section

set_option maxRecDepth 16384

noncomputable section

namespace Cert.KernelIdeal.TwoWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The slots of a buffer -/

theorem mem_rS0 (x : S2x1024x512.Idx) : x ∈ rS0.set ↔ (x 0).val = 0 := by
  rw [← Rect.map_emb_univ]
  constructor
  · intro h
    obtain ⟨y, -, rfl⟩ := Finset.mem_map.mp h
    have h1 : (y 0).val < 1 := (y 0).isLt
    show 0 + 1 * (y 0).val = 0; omega
  · intro h
    refine Finset.mem_map.mpr ⟨fun a => match a with | ⟨0, _⟩ => ⟨0, Nat.zero_lt_one⟩ | ⟨1, _⟩ => x 1 | ⟨2, _⟩ => x 2, Finset.mem_univ _, funext fun a => Fin.ext ?_⟩
    fin_cases a
    · exact h.symm
    · show 0 + 1 * (x 1).val = (x 1).val; omega
    · show 0 + 1 * (x 2).val = (x 2).val; omega
theorem mem_rS1 (x : S2x1024x512.Idx) : x ∈ rS1.set ↔ (x 0).val = 1 := by
  rw [← Rect.map_emb_univ]
  constructor
  · intro h
    obtain ⟨y, -, rfl⟩ := Finset.mem_map.mp h
    have h1 : (y 0).val < 1 := (y 0).isLt
    show 1 + 1 * (y 0).val = 1; omega
  · intro h
    refine Finset.mem_map.mpr ⟨fun a => match a with | ⟨0, _⟩ => ⟨0, Nat.zero_lt_one⟩ | ⟨1, _⟩ => x 1 | ⟨2, _⟩ => x 2, Finset.mem_univ _, funext fun a => Fin.ext ?_⟩
    fin_cases a
    · exact h.symm
    · show 0 + 1 * (x 1).val = (x 1).val; omega
    · show 0 + 1 * (x 2).val = (x 2).val; omega
theorem rS_disjoint : Disjoint rS0.set rS1.set := Finset.disjoint_left.mpr fun x h h' => by
  have h1 := (mem_rS0 x).mp h; have h2 := (mem_rS1 x).mp h'; omega
theorem rS_union : rS0.set ∪ rS1.set = Finset.univ := Finset.ext fun x => by
  rw [Finset.mem_union, mem_rS0, mem_rS1]
  have h : (x 0).val < 2 := (x 0).isLt
  exact ⟨fun _ => Finset.mem_univ _, fun _ => by omega⟩

omit [FloatOps F] in
theorem own1_eq (d k : Bool) (c : Dev nD) :
    (iprop(∃ X, own1 d k c X) : sProp 𝕄) ⊣⊢ iprop(∃ f, (slot d k).view.loc (c : Thread nD τ) ↦[(slot d k).view.set]{fullShare} f) := by
  unfold own1 owns
  constructor
  · iintro ⟨%X, %f, -, H⟩; iexists f; iexact H
  · iintro ⟨%f, H⟩; iexists _; iexists f
    isplitr; · ipureintro; rfl
    iexact H

omit [FloatOps F] in
theorem split_a (c : Dev nD) : (iprop(∃ f : Buf (Elt F) ((c : Thread nD τ).loc cc0_scratch0), ((c : Thread nD τ).loc cc0_scratch0) ↦{fullShare} f) : sProp 𝕄)
    ⊢ iprop((∃ X, own1 true false c X) ∗ ∃ X, own1 true true c X) := by
  iintro ⟨%f, H⟩
  ihave H := (show ((c : Thread nD τ).loc cc0_scratch0 ↦{fullShare} f : sProp 𝕄) ⊢ iprop(((c : Thread nD τ).loc cc0_scratch0 ↦[rS0.set]{fullShare} f) ∗ (c : Thread nD τ).loc cc0_scratch0 ↦[rS1.set]{fullShare} f) from by
    rw [← rS_union]; exact (pointsTo_union rS_disjoint).1) $$ H
  icases H with ⟨H0, H1⟩
  isplitl [H0]
  · iapply (own1_eq true false c).2
    iexists f; rw [show (slot true false).view.set = rS0.set from View.set_slice_whole _ _]; iexact H0
  · iapply (own1_eq true true c).2
    iexists f; rw [show (slot true true).view.set = rS1.set from View.set_slice_whole _ _]; iexact H1
omit [FloatOps F] in
theorem split_b (c : Dev nD) : (iprop(∃ f : Buf (Elt F) ((c : Thread nD τ).loc cc0_scratch1), ((c : Thread nD τ).loc cc0_scratch1) ↦{fullShare} f) : sProp 𝕄)
    ⊢ iprop((∃ X, own1 false false c X) ∗ ∃ X, own1 false true c X) := by
  iintro ⟨%f, H⟩
  ihave H := (show ((c : Thread nD τ).loc cc0_scratch1 ↦{fullShare} f : sProp 𝕄) ⊢ iprop(((c : Thread nD τ).loc cc0_scratch1 ↦[rS0.set]{fullShare} f) ∗ (c : Thread nD τ).loc cc0_scratch1 ↦[rS1.set]{fullShare} f) from by
    rw [← rS_union]; exact (pointsTo_union rS_disjoint).1) $$ H
  icases H with ⟨H0, H1⟩
  isplitl [H0]
  · iapply (own1_eq false false c).2
    iexists f; rw [show (slot false false).view.set = rS0.set from View.set_slice_whole _ _]; iexact H0
  · iapply (own1_eq false true c).2
    iexists f; rw [show (slot false true).view.set = rS1.set from View.set_slice_whole _ _]; iexact H1
omit [FloatOps F] in
theorem join_a (c : Dev nD) : (iprop((∃ X, own1 true false c X) ∗ ∃ X, own1 true true c X) : sProp 𝕄)
    ⊢ iprop(∃ f : Buf (Elt F) ((c : Thread nD τ).loc cc0_scratch0), ((c : Thread nD τ).loc cc0_scratch0) ↦{fullShare} f) := by
  iintro ⟨H0, H1⟩
  ihave H0 := (own1_eq true false c).1 $$ H0
  ihave H1 := (own1_eq true true c).1 $$ H1
  icases H0 with ⟨%f, H0⟩
  icases H1 with ⟨%g, H1⟩
  rw [show (slot true false).view.set = rS0.set from View.set_slice_whole _ _, show (slot true true).view.set = rS1.set from View.set_slice_whole _ _]
  iexists _
  rw [← rS_union]
  iapply (pointsTo_join rS_disjoint)
  isplitl [H0]; · iexact H0
  iexact H1
omit [FloatOps F] in
theorem join_b (c : Dev nD) : (iprop((∃ X, own1 false false c X) ∗ ∃ X, own1 false true c X) : sProp 𝕄)
    ⊢ iprop(∃ f : Buf (Elt F) ((c : Thread nD τ).loc cc0_scratch1), ((c : Thread nD τ).loc cc0_scratch1) ↦{fullShare} f) := by
  iintro ⟨H0, H1⟩
  ihave H0 := (own1_eq false false c).1 $$ H0
  ihave H1 := (own1_eq false true c).1 $$ H1
  icases H0 with ⟨%f, H0⟩
  icases H1 with ⟨%g, H1⟩
  rw [show (slot false false).view.set = rS0.set from View.set_slice_whole _ _, show (slot false true).view.set = rS1.set from View.set_slice_whole _ _]
  iexists _
  rw [← rS_union]
  iapply (pointsTo_join rS_disjoint)
  isplitl [H0]; · iexact H0
  iexact H1

/-! ## Cells and tokens -/

abbrev Key : Type := Option (Bool × Bool × Fin 3)

theorem use_csem (k : Key) : useOf (csem k) = (match k with | none => .bar | some (true, d, s) => .snd d s | some (false, d, s) => .rcv d s) := by
  revert k; decide
theorem csem_injective : Function.Injective csem := fun k k' h => by
  have h' := congrArg useOf h
  rw [use_csem, use_csem] at h'
  revert h'; revert k k'; decide

theorem kcell_injective : Function.Injective kcell := by
  rintro ⟨c, k⟩ ⟨c', k'⟩ h
  have h1 : c = c' := congrArg (fun g : GSem nD τ sig => g.1.1) h
  have h2 : k = k' := csem_injective (congrArg (fun g : GSem nD τ sig => g.2) h)
  rw [h1, h2]
def allCells : Finset (GSem nD τ sig) := Finset.univ.map ⟨kcell, kcell_injective⟩

/-- The duties of a device's own cells: per hop, direction, and which of the three. -/
abbrev Duty : Type := Fin 24 × Bool × Fin 3
def tokOf (ck : Dev nD × Duty) : GSem nD τ sig × ℕ × Bool := match ck with
  | (c, r, d, 0) => (barCell c, r.val, d)
  | (c, r, d, 1) => (sndCell d (hopS r.val) c, r.val / 3, true)
  | (c, r, d, 2) => (rcvCell d (hopS r.val) c, r.val / 3, true)

/-- What a duty is for, its round, its flag. -/
def tagOf (k : Duty) : Use × ℕ × Bool := match k with
  | (r, d, 0) => (.bar, r.val, d)
  | (r, d, 1) => (.snd d (hopS r.val), r.val / 3, true)
  | (r, d, 2) => (.rcv d (hopS r.val), r.val / 3, true)
theorem tag_tok (c : Dev nD) (k : Duty) : (useOf (tokOf (c, k)).1.2, (tokOf (c, k)).2) = tagOf k := by
  obtain ⟨r, d, x⟩ := k
  fin_cases x
  · rfl
  · exact Prod.ext (use_snd d (hopS r.val)) rfl
  · exact Prod.ext (use_rcv d (hopS r.val)) rfl
theorem tag_injective : Function.Injective tagOf := by
  rintro ⟨r, d, x⟩ ⟨r', d', x'⟩ h
  have key : hopS r.val = hopS r'.val → r.val / 3 = r'.val / 3 → r = r' := fun h1 h2 => by
    have h3 : r.val % 3 = r'.val % 3 := congrArg Fin.val h1
    exact Fin.ext (by omega)
  fin_cases x <;> fin_cases x' <;> simp only [tagOf, Prod.mk.injEq, Use.snd.injEq, Use.rcv.injEq, reduceCtorEq, false_and, and_true, true_and] at h
  · obtain ⟨h1, h2⟩ := h; rw [Fin.ext h1, h2]
  · obtain ⟨⟨h1, h2⟩, h3⟩ := h; rw [key h2 h3, h1]
  · obtain ⟨⟨h1, h2⟩, h3⟩ := h; rw [key h2 h3, h1]
theorem tok_dev (c : Dev nD) (k : Duty) : (tokOf (c, k)).1.1.1 = c := by
  obtain ⟨r, d, x⟩ := k
  fin_cases x <;> rfl
theorem tokOf_injective : Function.Injective tokOf := by
  rintro ⟨c, k⟩ ⟨c', k'⟩ h
  have h1 : c = c' := by rw [← tok_dev c k, h, tok_dev]
  have h2 : k = k' := tag_injective (by rw [← tag_tok c k, h, tag_tok])
  rw [h1, h2]
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of device `c`'s own cells for hop `r`, and of the duties it pays. -/
def tk (c : Dev nD) (r : ℕ) : sProp 𝕄 :=
  iprop((dutyTok ER (barCell c) r true ∗ dutyTok ER (sndCell true (hopS r) c) (r / 3) true ∗ dutyTok ER (rcvCell true (hopS r) c) (r / 3) true)
    ∗ (dutyTok ER (barCell c) r false ∗ dutyTok ER (sndCell false (hopS r) c) (r / 3) true ∗ dutyTok ER (rcvCell false (hopS r) c) (r / 3) true))
def pk (c : Dev nD) (r : ℕ) : sProp 𝕄 :=
  iprop((dutyTok ER (barCell (orig true c)) r true ∗ dutyTok ER (sndCell true (hopS r) c) (r / 3) true ∗ dutyTok ER (rcvCell true (hopS r) (dest true c)) (r / 3) true)
    ∗ (dutyTok ER (barCell (orig false c)) r false ∗ dutyTok ER (sndCell false (hopS r) c) (r / 3) true ∗ dutyTok ER (rcvCell false (hopS r) (dest false c)) (r / 3) true))
def toks (c : Dev nD) : sProp 𝕄 := bigSep Finset.univ fun r : Fin 24 => tk c r.val
def pays (c : Dev nD) : sProp 𝕄 := bigSep Finset.univ fun r : Fin 24 => pk c r.val

omit [FloatOps F] in
theorem bigSep_duty (Φ : Duty → sProp 𝕄) : bigSep Finset.univ Φ
    = bigSep Finset.univ fun r : Fin 24 => iprop((Φ (r, true, 0) ∗ Φ (r, true, 1) ∗ Φ (r, true, 2)) ∗ (Φ (r, false, 0) ∗ Φ (r, false, 1) ∗ Φ (r, false, 2))) := by
  rw [bigSep_univ_prod]
  refine bigSep_congr fun r _ => ?_
  rw [bigSep_univ_prod, bigSep_univ_eq_bigSepL [true, false] (by decide) (by decide)]
  show iprop((bigSep Finset.univ fun x : Fin 3 => Φ (r, true, x)) ∗ (bigSep Finset.univ fun x : Fin 3 => Φ (r, false, x))) = _
  rw [bigSep_univ_eq_bigSepL [0, 1, 2] (by decide) (by decide) (fun x : Fin 3 => Φ (r, true, x)),
    bigSep_univ_eq_bigSepL [0, 1, 2] (by decide) (by decide) (fun x : Fin 3 => Φ (r, false, x))]
  rfl

omit [FloatOps F] in
theorem around (r : ℕ) : (bigSep Finset.univ fun c : Dev nD => (tk c r : sProp 𝕄)) ⊢ bigSep Finset.univ fun c : Dev nD => pk c r := by
  unfold tk pk
  simp only [bigSep_sep']
  rw [bigSep_univ_equiv ring.symm (fun c : Dev nD => (dutyTok ER (barCell c) r true : sProp 𝕄)),
    bigSep_univ_equiv ring (fun c : Dev nD => (dutyTok ER (barCell c) r false : sProp 𝕄)),
    bigSep_univ_equiv ring (fun c : Dev nD => (dutyTok ER (rcvCell true (hopS r) c) (r / 3) true : sProp 𝕄)),
    bigSep_univ_equiv ring.symm (fun c : Dev nD => (dutyTok ER (rcvCell false (hopS r) c) (r / 3) true : sProp 𝕄))]
  exact BI.Entails.refl _

omit [FloatOps F] in
theorem swap {I J : Type} [DecidableEq I] [DecidableEq J] [Fintype I] [Fintype J] (Φ : I → J → sProp 𝕄) :
    (bigSep Finset.univ fun i => bigSep Finset.univ (Φ i)) = bigSep Finset.univ fun j => bigSep Finset.univ fun i => Φ i j := by
  rw [← bigSep_univ_prod (fun x : I × J => Φ x.1 x.2), ← bigSep_univ_prod (fun x : J × I => Φ x.2 x.1),
    bigSep_univ_equiv (Equiv.prodComm J I) (fun x : I × J => Φ x.1 x.2)]
  rfl

omit [FloatOps F] in
theorem toks_around : (bigSep Finset.univ fun c : Dev nD => (toks c : sProp 𝕄)) ⊢ bigSep Finset.univ fun c : Dev nD => pays c := by
  unfold toks pays
  rw [swap (fun (c : Dev nD) (r : Fin 24) => (tk c r.val : sProp 𝕄)), swap (fun (c : Dev nD) (r : Fin 24) => (pk c r.val : sProp 𝕄))]
  exact bigSep_mono fun r _ => around r.val

/-! ## The deal -/

/-- What the launch element deals device `c`, and what the global step makes of it. -/
def G (c : Dev nD) : sProp 𝕄 :=
  iprop((bigSep Finset.univ fun k : Key => roundState ER (rd m) (kcell (c, k)) 0)
    ∗ (bigSep Finset.univ fun k : Key => iprop(atPos ER (kcell (c, k)) 0 ∅ 0 ∗ reached ER (kcell (c, k)) 0)) ∗ toks c)
def recs0 : sProp 𝕄 :=
  iprop((bigSep Finset.univ fun ck : Dev nD × Key => iprop(∃ κ, cellInv ER (rd m) κ (kcell ck)))
    ∗ (bigSep Finset.univ fun ck : Dev nD × Key => reached ER (kcell ck) 0))
def lin (c : Dev nD) : sProp 𝕄 := iprop((bigSep Finset.univ fun k : Key => atPos ER (kcell (c, k)) 0 ∅ 0) ∗ pays c)
def G' (c : Dev nD) : sProp 𝕄 := iprop(recs0 m ∗ lin c)

instance recs0_persistent : BI.Persistent (recs0 (F := F) m) := by unfold recs0; infer_instance

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Key => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks tk; rw [bigSep_duty]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

abbrev osem : Fin 12 → SemLoc sig
  | 0 => .dma (sndS true 0)
  | 1 => .dma (sndS true 1)
  | 2 => .dma (sndS true 2)
  | 3 => .dma (rcvS true 0)
  | 4 => .dma (rcvS true 1)
  | 5 => .dma (rcvS true 2)
  | 6 => .dma (sndS false 0)
  | 7 => .dma (sndS false 1)
  | 8 => .dma (sndS false 2)
  | 9 => .dma (rcvS false 0)
  | 10 => .dma (rcvS false 1)
  | 11 => .dma (rcvS false 2)

theorem ownSemFacts : Pipeline.OwnSemFacts cfg0.spec osem := by decide

omit [FloatOps F] in
theorem bigSep_key (Φ : Key → sProp 𝕄) : bigSep Finset.univ Φ = iprop(Φ none ∗ Φ (some (true, true, 0)) ∗ Φ (some (true, true, 1)) ∗ Φ (some (true, true, 2))
    ∗ Φ (some (false, true, 0)) ∗ Φ (some (false, true, 1)) ∗ Φ (some (false, true, 2)) ∗ Φ (some (true, false, 0)) ∗ Φ (some (true, false, 1)) ∗ Φ (some (true, false, 2))
    ∗ Φ (some (false, false, 0)) ∗ Φ (some (false, false, 1)) ∗ Φ (some (false, false, 2))) := by
  rw [bigSep_univ_eq_bigSepL [none, some (true, true, 0), some (true, true, 1), some (true, true, 2), some (false, true, 0), some (false, true, 1), some (false, true, 2),
    some (true, false, 0), some (true, false, 1), some (true, false, 2), some (false, false, 0), some (false, false, 1), some (false, false, 2)] (by decide) (by decide)]
  rfl

omit [FloatOps F] in
theorem ownSems0_eq (c : Dev nD) : (Pipeline.ownSems0 (Ix := ℕ) (Name := ℕ) (U := UU) (Lvl := ℕ) (Val := Elt F) (τ := τ) osem c : sProp 𝕄)
    = iprop(semVal (sndCell true 0 c) 0 ∗ semVal (sndCell true 1 c) 0 ∗ semVal (sndCell true 2 c) 0 ∗ semVal (rcvCell true 0 c) 0 ∗ semVal (rcvCell true 1 c) 0
      ∗ semVal (rcvCell true 2 c) 0 ∗ semVal (sndCell false 0 c) 0 ∗ semVal (sndCell false 1 c) 0 ∗ semVal (sndCell false 2 c) 0 ∗ semVal (rcvCell false 0 c) 0
      ∗ semVal (rcvCell false 1 c) 0 ∗ semVal (rcvCell false 2 c) 0) := by
  rw [Pipeline.ownSems0_eq_of_list c osem [0, 1, 2, 3, 4, 5, 6, 7, 8, 9, 10, 11] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(unscopedSems0 c ∗ Pipeline.ownSems0 (Ix := ℕ) (Name := ℕ) (U := UU) (Lvl := ℕ) (Val := Elt F) (τ := τ) osem c)
      = (bigSep Finset.univ fun k : Key => semVal (kcell (c, k)) 0 : sProp 𝕄) := by
  rw [ownSems0_eq, unscopedSems0_eq, bigSep_key]

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Key => iprop(∃ κ : ℕ, cellInv ER (rd m) κ (kcell (c, k))))
          ∗ (bigSep Finset.univ fun k : Key => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Key => semVal (kcell (c, k)) 0) ∗ bigSep Finset.univ fun k : Key => roundState ER (rd m) (kcell (c, k)) 0)
      ⊢ (|={Set.univ}=> bigSep Finset.univ fun k : Key => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Key => iprop(∃ κ : ℕ, cellInv ER (rd m) κ (kcell (c, k))))
          ∗ (bigSep Finset.univ fun k : Key => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Key => iprop(∃ κ : ℕ, cellInv ER (rd m) κ (kcell ck))),
    bigSep_congr (s := Finset.univ) (fun (c : Dev nD) _ => bigSep_sep' Finset.univ (fun k : Key => (atPos ER (kcell (c, k)) 0 ∅ 0 : sProp 𝕄)) (fun k => reached ER (kcell (c, k)) 0)),
    bigSep_sep', ← bigSep_univ_prod (fun ck : Dev nD × Key => (reached ER (kcell ck) 0 : sProp 𝕄))]
  iintro ⟨#HI, ⟨Hat, #HR⟩, Htok⟩
  ihave Htk := (toks_around (F := F)) $$ Htok
  iapply (with_persistent (R := recs0 m) (Φ := lin) (Ψ := G' m) fun c _ => BI.Entails.refl _)
  isplitr
  · unfold recs0; isplitl; · iexact HI
    iexact HR
  · unfold lin; rw [bigSep_sep']
    isplitl [Hat]; · iexact Hat
    iexact Htk

/-- Every device's own and unscoped semaphores at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- The credits of hop `r`. -/
def cr (c : Dev nD) (r : ℕ) : sProp 𝕄 :=
  iprop(cred (tallyAt (rcvCell true (hopS r) c) r N) ∗ cred (tallyAt (rcvCell false (hopS r) c) r N) ∗ cred (tallyAt (barCell c) r 2))

omit [FloatOps F] in
theorem cred_hop (c : Dev nD) (r : ℕ) : (Pipeline.launchCred (fun d => owe d r) c : sProp 𝕄) ⊢ cr c r := by
  unfold owe owe1 cr
  rw [Pipeline.launchCred_add, Pipeline.launchCred_add, Pipeline.launchCred_add]
  iintro ⟨⟨⟨H1, H2⟩, H3⟩, H4⟩
  ihave H1 := (Pipeline.launchCred_tallyAt (.dma (rcvS true (hopS r))) nxt prv nxt_prv prv_nxt r N c) $$ H1
  ihave H2 := (Pipeline.launchCred_tallyAt (.dma (rcvS false (hopS r))) prv nxt prv_nxt nxt_prv r N c) $$ H2
  ihave H3 := (Pipeline.launchCred_tallyAt (.reg barS) nxt prv nxt_prv prv_nxt r 1 c) $$ H3
  ihave H4 := (Pipeline.launchCred_tallyAt (.reg barS) prv nxt prv_nxt nxt_prv r 1 c) $$ H4
  isplitl [H1]; · iexact H1
  isplitl [H2]; · iexact H2
  rw [show (2 : ℕ) = 1 + 1 from rfl, ← tallyAt_add]
  iapply (cred_add _ _).2
  isplitl [H3]; · iexact H3
  iexact H4

omit [FloatOps F] in
theorem creds (c : Dev nD) : (Pipeline.launchCred (fun d => O d 0) c : sProp 𝕄) ⊢ bigSep (Finset.Ico 0 24) (cr c) := by
  unfold O
  rw [Pipeline.launchCred_sum]
  exact bigSep_mono fun r _ => cred_hop c r

end Cert.KernelIdeal.TwoWay

end
-- ==== Proof.Run.lean ====
/-
# The run of the four devices
-/
module

public import proofs.«01_k».proof.Proof.Start
public import Idealize.ShloMosaic.Lib.Pipeline.CollectiveSegs

@[expose] public section

set_option maxRecDepth 16384

noncomputable section

namespace Cert.KernelIdeal.TwoWay

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The steps as the pipeline runs them -/

/-- What the hops from `n` on use up. -/
def left (c : Dev nD) (n : ℕ) : sProp 𝕄 := bigSep (Finset.Ico n 24) fun r => iprop(pk c r ∗ cr c r)

omit [FloatOps F] in
theorem left_hop (c : Dev nD) (j : ℕ) (s : Fin 3) : (iprop(pk c (hop j s) ∗ cr c (hop j s)) : sProp 𝕄) ⊢ hopRes c j s := by
  unfold pk cr hopRes dirRes
  rw [hop_mod, hop_div]
  iintro ⟨⟨⟨H1, H2, H3⟩, ⟨H4, H5, H6⟩⟩, H7, H8, H9⟩
  isplitl [H1 H2 H3 H7]
  · isplitl [H1]; · iexact H1
    isplitl [H2]; · iexact H2
    isplitl [H3]; · iexact H3
    iexact H7
  isplitl [H4 H5 H6 H8]
  · isplitl [H4]; · iexact H4
    isplitl [H5]; · iexact H5
    isplitl [H6]; · iexact H6
    iexact H8
  iexact H9

omit [FloatOps F] in
theorem left_one (c : Dev nD) (n n' : ℕ) (h : n < 24) (e : n' = n + 1) : (left c n : sProp 𝕄) ⊢ iprop((pk c n ∗ cr c n) ∗ left c n') := by
  subst e
  unfold left
  rw [show Finset.Ico n 24 = insert n (Finset.Ico (n + 1) 24) from Finset.ext fun x => by simp only [Finset.mem_Ico, Finset.mem_insert]; omega,
    bigSep_insert (by simp)]
  exact BI.Entails.refl _

omit [FloatOps F] in
theorem left_step (c : Dev nD) (j : ℕ) (hj : j < 8) : (left c (hop j 0) : sProp 𝕄) ⊢ iprop(res c j ∗ left c (hop (j + 1) 0)) := by
  have e0 : hop j 0 < 24 := by show 3 * j + 0 < 24; omega
  have e1 : hop j 1 < 24 := by show 3 * j + 1 < 24; omega
  have e2 : hop j 2 < 24 := by show 3 * j + 2 < 24; omega
  unfold res
  iintro H
  ihave H := (left_one c (hop j 0) (hop j 1) e0 rfl) $$ H
  icases H with ⟨H0, H⟩
  ihave H := (left_one c (hop j 1) (hop j 2) e1 rfl) $$ H
  icases H with ⟨H1, H⟩
  ihave H := (left_one c (hop j 2) (hop (j + 1) 0) e2 rfl) $$ H
  icases H with ⟨H2, H⟩
  ihave H0 := (left_hop c j 0) $$ H0
  ihave H1 := (left_hop c j 1) $$ H1
  ihave H2 := (left_hop c j 2) $$ H2
  isplitl [H0 H1 H2]
  · isplitl [H0]; · iexact H0
    isplitl [H1] <;> iassumption
  iexact H

/-- Before a step, and after the last. -/
def slots (c : Dev nD) : sProp 𝕄 :=
  iprop((∃ X, own1 true false c X) ∗ (∃ X, own1 true true c X) ∗ (∃ X, own1 false false c X) ∗ (∃ X, own1 false true c X))
def live (c : Dev nD) (j : ℕ) : sProp 𝕄 := iprop(recs m ∗ st c j ∗ left c (hop j 0))
def done (c : Dev nD) : sProp 𝕄 :=
  iprop((unscopedSems0 c ∗ Pipeline.ownSems0 (Ix := ℕ) (Name := ℕ) (U := UU) (Lvl := ℕ) (Val := Elt F) (τ := τ) osem c) ∗ slots c)
def Phi (c : Dev nD) (j : ℕ) : sProp 𝕄 := if j < 8 then live m c j else done c

theorem close_pos (d : Bool) (c : Dev nD) (s : Fin 3) :
    iprop(recs m ∗ pos1 d c 8 s) ⊢ (|={Set.univ}=> iprop(semVal (sndCell d s c) 0 ∗ semVal (rcvCell d s c) 0) : sProp 𝕄) := by
  unfold pos1
  iintro ⟨#HR, Hs, -, Hr, -⟩
  ihave HI := (recs_snd m d s c) $$ HR
  icases HI with ⟨%κ, HI⟩
  imod (Rounds.cell_close ER (rd m) (Set.mem_univ κ) (fun h => h) (R := 8) (late_snd m c d s)) $$ [HI Hs] with H1
  · isplitl [HI] <;> iassumption
  ihave HI := (recs_rcv m d s c) $$ HR
  icases HI with ⟨%κ', HI⟩
  imod (Rounds.cell_close ER (rd m) (Set.mem_univ κ') (fun h => h) (R := 8) (late_rcv m c d s)) $$ [HI Hr] with H2
  · isplitl [HI] <;> iassumption
  imodintro
  isplitl [H1] <;> iassumption

theorem close_all (c : Dev nD) : iprop(recs m ∗ st c 8) ⊢ (|={Set.univ}=> done c : sProp 𝕄) := by
  unfold st pos barSt done
  iintro ⟨#HR, ⟨A0, B0⟩, ⟨A1, B1⟩, ⟨A2, B2⟩, ⟨Hb, -⟩, HS⟩
  ihave HI := (recs_bar m c) $$ HR
  icases HI with ⟨%κ, HI⟩
  imod (Rounds.cell_close ER (rd m) (Set.mem_univ κ) (fun h => h) (R := 24) (late_bar m c)) $$ [HI Hb] with Hz
  · isplitl [HI]; · iexact HI
    iexact Hb
  imod (close_pos m true c 0) $$ [A0] with ⟨S0, R0⟩
  · isplitr; · iexact HR
    iexact A0
  imod (close_pos m true c 1) $$ [A1] with ⟨S1, R1⟩
  · isplitr; · iexact HR
    iexact A1
  imod (close_pos m true c 2) $$ [A2] with ⟨S2, R2⟩
  · isplitr; · iexact HR
    iexact A2
  imod (close_pos m false c 0) $$ [B0] with ⟨T0, Q0⟩
  · isplitr; · iexact HR
    iexact B0
  imod (close_pos m false c 1) $$ [B1] with ⟨T1, Q1⟩
  · isplitr; · iexact HR
    iexact B1
  imod (close_pos m false c 2) $$ [B2] with ⟨T2, Q2⟩
  · isplitr; · iexact HR
    iexact B2
  imodintro
  isplitr [HS]
  · rw [unscopedSems0_eq, ownSems0_eq]
    isplitl [Hz]; · iexact Hz
    isplitl [S0]; · iexact S0
    isplitl [S1]; · iexact S1
    isplitl [S2]; · iexact S2
    isplitl [R0]; · iexact R0
    isplitl [R1]; · iexact R1
    isplitl [R2]; · iexact R2
    isplitl [T0]; · iexact T0
    isplitl [T1]; · iexact T1
    isplitl [T2]; · iexact T2
    isplitl [Q0]; · iexact Q0
    isplitl [Q1] <;> iassumption
  · unfold slots; iexact HS

theorem live_next (c : Dev nD) (j : ℕ) (hj : j < 8) :
    iprop(recs m ∗ st c (j + 1) ∗ left c (hop (j + 1) 0)) ⊢ (|={Set.univ}=> Phi m c (j + 1) : sProp 𝕄) := by
  unfold Phi
  by_cases h : j + 1 < 8
  · rw [if_pos h]; unfold live
    iintro H; imodintro; iexact H
  · obtain rfl : j = 7 := by omega
    rw [if_neg h]
    iintro ⟨HR, HS, -⟩
    iapply (close_all m c)
    isplitl [HR] <;> iassumption

def dats (_ : Fin 1) (c : Dev nD) : Dat τ (Elt F) ℕ ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => outAt m c t.val
  Φ t := Phi m c t.val
  q _ := fullShare
  owed t := O c (hop t.val 0)

theorem before_x (c : Dev nD) (t : Fin cfg0.N) (d) : (dats m ρ 0 c).before 0 t d = iblk m c 0 t :=
  ((dats m ρ 0 c).before_in_eq_fetched 0 rfl (fun _ => rfl) (fun _ _ _ => rfl) (fun _ => rfl) t d).trans rfl
theorem before_w (c : Dev nD) (t : Fin cfg0.N) (d) : (dats m ρ 0 c).before 1 t d = iblk m c 1 t :=
  ((dats m ρ 0 c).before_in_eq_fetched 1 rfl (fun _ => rfl) (fun _ _ _ => rfl) (fun _ => rfl) t d).trans rfl

def pre (c : Dev nD) (t : Fin cfg0.N) : sProp 𝕄 :=
  iprop(Phi m c t.val ∗ (dats m ρ 0 c).owesAt (0 : ℕ) t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d)))
def post (c : Dev nD) (t : Fin cfg0.N) : sProp 𝕄 :=
  iprop(Phi m c (t.val + 1) ∗ (dats m ρ 0 c).owesAt (0 : ℕ) t.succ
    ∗ owns (c : Thread nD τ) (st0_0 t) fullShare (iblk m c 0 t)
    ∗ owns (c : Thread nD τ) (st0_1 t) fullShare (iblk m c 1 t)
    ∗ owns (c : Thread nD τ) (st0_2 t) fullShare (outAt m c t.val))

theorem step (c : Dev nD) (t : Fin cfg0.N) :
    pre m ρ c t ⊢ wp frame (wpE (defs₀ (F := F)) 𝒱₀ (c : Thread nD τ) none) Set.univ (bodyAt0 t) fun _ => post m ρ c t := by
  have hj : t.val < 8 := t.isLt.trans_eq N_0
  have ex : xs m c t.val = iblk m c 0 t := by unfold xs; rw [pt_val]
  have ew : ws m c t.val = iblk m c 1 t := by unfold ws; rw [pt_val]
  unfold pre Phi Dat.owesAt Pipeline.owesWithin
  rw [if_pos hj]
  unfold live
  iintro ⟨⟨#HR, Hst, Hl⟩, ⟨%W, -, HO⟩, ⟨%d0, H0⟩, ⟨%d1, H1⟩, ⟨%d2, H2⟩⟩
  rw [before_x, before_w]
  ihave Hl := (left_step c t.val hj) $$ Hl
  icases Hl with ⟨Hres, Hl⟩
  iapply (sound_body m c t.val hj (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) ((dats m ρ 0 c).before 2 t d2) (fun _ => post m ρ c t))
  rw [ex, ew]
  isplitl [HO Hst Hres H0 H1 H2]
  · isplitr; · iexact HR
    isplitl [HO]; · unfold ow; iexists W; iexact HO
    isplitl [Hst]; · iexact Hst
    isplitl [Hres]; · iexact Hres
    isplitl [H0]; · iexact H0
    isplitl [H1]; · iexact H1
    iexact H2
  iintro ⟨HO, Hst, H0, H1, H2⟩
  imod (live_next m c t.val hj) $$ [Hst Hl] with HP
  · isplitr; · iexact HR
    isplitl [Hst] <;> iassumption
  imodintro
  unfold post Dat.owesAt Pipeline.owesWithin ow
  icases HO with ⟨%W', HO⟩
  isplitl [HP]; · iexact HP
  isplitl [HO]
  · iexists W'
    isplitr; · ipureintro; exact fun _ _ => Or.inl trivial
    iexact HO
  isplitl [H0]; · iexact H0
  isplitl [H1]; · iexact H1
  iexact H2

theorem body_obligation (c : Dev nD) : BodyObligation (dats (F := F) m ρ 0 c) (defs₀ (F := F)) 𝒱₀ (0 : ℕ) Set.univ := fun t => by
  rw [bigSep_W0, bigSep_W0]
  exact step m ρ c t

/-! ## The run -/

theorem share_eq (c : Dev nD) (w : Fin cfg0.W) : (dats m ρ 0 c).share w = fullShare := by unfold Dat.share; split <;> rfl

/-- What a device starts from. -/
def start (c : Dev nD) : sProp 𝕄 := iprop(recs m ∗ (pos c 0 0 ∗ pos c 0 1 ∗ pos c 0 2 ∗ barSt c 0) ∗ left c 0)

theorem pos1_start (d : Bool) (s : Fin 3) (c : Dev nD) :
    iprop(recs m ∗ atPos ER (sndCell d s c) 0 ∅ 0 ∗ atPos ER (rcvCell d s c) 0 ∅ 0) ⊢ (pos1 d c 0 s : sProp 𝕄) := by
  unfold pos1
  iintro ⟨#HR, H1, H2⟩
  ihave #A := (recs_reached m (c, some (true, d, s))) $$ HR
  ihave #B := (recs_reached m (c, some (false, d, s))) $$ HR
  isplitl [H1]; · iexact H1
  isplitr; · iexact A
  isplitl [H2]; · iexact H2
  iexact B

theorem pos_start (s : Fin 3) (c : Dev nD) :
    iprop(recs m ∗ (atPos ER (sndCell true s c) 0 ∅ 0 ∗ atPos ER (rcvCell true s c) 0 ∅ 0)
      ∗ (atPos ER (sndCell false s c) 0 ∅ 0 ∗ atPos ER (rcvCell false s c) 0 ∅ 0)) ⊢ (pos c 0 s : sProp 𝕄) := by
  unfold pos
  iintro ⟨#HR, H1, H2⟩
  isplitl [H1]
  · iapply (pos1_start m true s c); isplitr; · iexact HR
    iexact H1
  · iapply (pos1_start m false s c); isplitr; · iexact HR
    iexact H2

omit [FloatOps F] in
theorem left_start (c : Dev nD) : (iprop(pays c ∗ bigSep (Finset.Ico 0 24) (cr c)) : sProp 𝕄) ⊢ left c 0 := by
  have h : (pays c : sProp 𝕄) = bigSep (Finset.Ico 0 24) (pk c) := by
    unfold pays
    rw [show Finset.Ico 0 24 = (Finset.univ : Finset (Fin 24)).map Fin.valEmbedding from by decide, bigSep_map]
    rfl
  unfold left
  rw [h, ← bigSep_sep']

theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m c)
      ⊢ |={Set.univ}=> iprop(start m c ∗ emp) := by
  unfold G' lin start
  rw [bigSep_key]
  iintro ⟨-, #Hlev, Hcr, -, #H0, ⟨Pb, s0, s1, s2, r0, r1, r2, t0, t1, t2, q0, q1, q2⟩, Hpay⟩
  ihave Hc := (creds (F := F) c) $$ Hcr
  ihave #HR := (show iprop(recs0 m ∗ levAts L lv) ⊢ (recs m : sProp 𝕄) from by
    unfold recs0 recs; iintro ⟨⟨H1, H2⟩, H3⟩
    isplitl [H1]; · iexact H1
    isplitl [H2] <;> iassumption) $$ [H0 Hlev]
  · isplitl <;> iassumption
  imodintro
  isplitl
  · isplitr; · iexact HR
    isplitr [Hpay Hc]
    · isplitl [s0 r0 t0 q0]
      · iapply (pos_start m 0 c)
        isplitr; · iexact HR
        isplitl [s0 r0]
        · isplitl [s0]; · iexact s0
          iexact r0
        · isplitl [t0]; · iexact t0
          iexact q0
      isplitl [s1 r1 t1 q1]
      · iapply (pos_start m 1 c)
        isplitr; · iexact HR
        isplitl [s1 r1]
        · isplitl [s1]; · iexact s1
          iexact r1
        · isplitl [t1]; · iexact t1
          iexact q1
      isplitl [s2 r2 t2 q2]
      · iapply (pos_start m 2 c)
        isplitr; · iexact HR
        isplitl [s2 r2]
        · isplitl [s2]; · iexact s2
          iexact r2
        · isplitl [t2]; · iexact t2
          iexact q2
      unfold barSt
      ihave #A := (recs_reached m (orig true c, none)) $$ HR
      ihave #B := (recs_reached m (orig false c, none)) $$ HR
      isplitl [Pb]; · iexact Pb
      isplitr; · iexact A
      iexact B
    · iapply (left_start c)
      isplitl [Hpay] <;> iassumption
  · iempintro

theorem first_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = live m c 0 from rfl, scopedRest0_eq]
  unfold start live st
  iintro ⟨⟨HR, ⟨P0, P1, P2, Pb⟩, Hl⟩, -, Ha, Hb⟩
  ihave Ha := (split_a c) $$ Ha
  ihave Hb := (split_b c) $$ Hb
  icases Ha with ⟨A0, A1⟩
  icases Hb with ⟨B0, B1⟩
  isplitl [HR]; · iexact HR
  isplitr [Hl]
  · isplitl [P0]; · iexact P0
    isplitl [P1]; · iexact P1
    isplitl [P2]; · iexact P2
    isplitl [Pb]; · iexact Pb
    isplitl [A0]; · iexact A0
    isplitl [A1]; · iexact A1
    isplitl [B0]; · iexact B0
    iexact B1
  · iexact Hl

theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = done c from by
    show Phi m c cfg0.N = done c; unfold Phi; exact if_neg (by rw [show cfg0.N = 8 from N_0]; decide), scopedRest0_eq]
  unfold done slots
  iintro ⟨⟨HU, HO⟩, A0, A1, B0, B1⟩
  isplitl [HU]; · iexact HU
  isplitl [HO]; · iexact HO
  isplitl [A0 A1]
  · iapply (join_a c); isplitl [A0] <;> iassumption
  · iapply (join_b c); isplitl [B0] <;> iassumption

theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    mayWait_stage c _ (by fin_cases w <;> fin_cases s <;> decide) _

/-- The arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution on the four devices ends, with the arrays at the stated
    contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => O d 0) (howed₀ := fun _ => rfl)
    (howedN := fun c => by show O c (hop cfg0.N 0) = 0; rw [show cfg0.N = 8 from N_0]; exact O_end c)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are left as they were. -/
theorem finalA_x (c : Dev nD) : finalA m ρ c (0 : Fin 3) = m ((c.tc : Thread nD τ).loc main_arg0) := (dats (F := F) m ρ 0 c).arrAt_in (0 : Fin 3) rfl _
theorem finalA_w (c : Dev nD) : finalA m ρ c (1 : Fin 3) = m ((c.tc : Thread nD τ).loc main_arg1) := (dats (F := F) m ρ 0 c).arrAt_in (1 : Fin 3) rfl _

end Cert.KernelIdeal.TwoWay

end
-- ==== Proof.Frames.lean ====
/-
# The frames of the kernel, at both readings
-/
module

public import proofs.«01_k».proof.Defs
public import proofs.«01_k».proof.Proof.Run
public import proofs.«01_k».proof.Proof.Gen.Kernel

@[expose] public section

noncomputable section

namespace Cert.KernelIdeal.TwoWay

open Idealize.ShloMosaic Idealize.ShloMosaic.TcCoe Idealize.SL.Sem

open Cert.KernelIdeal Cert.KernelIdeal.Gen in
/-- The run over any float values: the arguments unchanged, every counter at zero. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run Cert.KernelIdeal.defs _ _).mono
    (fun _ h => ⟨fun c => ⟨(h.1 c (0 : Fin 3)).trans (finalA_x m ρ c), (h.1 c (1 : Fin 3)).trans (finalA_w m ρ c)⟩, h.2⟩) (run_main m ρ)

theorem frame_ideal : Cert.quiescent_KernelIdeal := fun m ρ _ => frame_any (F := Ideal) m ρ
/-- The two programs' body tables are the same. -/
theorem bodies_eq : Cert.Kernel.defs₀ (F := Bits) = Cert.KernelIdeal.defs₀ (F := Bits) := by
  unfold Cert.Kernel.defs₀ Cert.KernelIdeal.defs₀
  congr 1
  funext l a
  match l, a with
  | 0, (t, s) => rfl
theorem defs_eq : Cert.Kernel.defs (F := Bits) = Cert.KernelIdeal.defs (F := Bits) :=
  congrArg (Pipeline.defs (Cert.KernelIdeal.pcfgs (F := Bits))) bodies_eq

theorem frame_kernel : Cert.quiescent_Kernel := fun m ρ _ => by
  have h := frame_any (F := Bits) m ρ
  rw [← defs_eq] at h
  exact h

end Cert.KernelIdeal.TwoWay

end
-- ==== Proof.Pay.lean ====
/-
# What one step computes, element by element

Over the extended reals: a partial product is a sum of products, a hop adds two of them, the last one is put through the gelu.
-/
module

public import proofs.«01_k».proof.Proof.Gen.KernelIdeal.Skeleton
public import Idealize.ShloMosaic.Lib.Pointwise

@[expose] public section

set_option maxRecDepth 16384

noncomputable section

namespace Cert.KernelIdeal.TwoWay

open Cert.KernelIdeal Cert.KernelIdeal.Gen
open Idealize.ShloMosaic Idealize.ShloMosaic.TcCoe

/-- The gelu of one number, as the kernel multiplies it out. -/
def gelu1 (y : EReal) : EReal :=
  (Ideal.ofBits .f32 0x3F000000#32 * y) * (1 + Ideal.tanh (Ideal.ofBits .f32 0x3F4C422A#32 * (y + ((Ideal.ofBits .f32 0x3D372713#32 * y) * y) * y)))

theorem pay2_at (x : Vec Ideal S1024x1024 .f32) (w : Vec Ideal S1024x512 .f32) (z : Fin 1) (a : Fin 1024) (b : Fin 512) :
    k0_pay2 x w (ix3 z a b) = ∑ k : Fin 1024, x (ix2 a k) * w (ix2 k b) := by
  pointwise [k0_pay2]
theorem pay4_at (x : Vec Ideal S1024x1024 .f32) (w : Vec Ideal S1024x512 .f32) (a : Fin 1024) (b : Fin 512) :
    k0_pay4 x w (ix2 a b) = ∑ k : Fin 1024, x (ix2 a k) * w (ix2 k b) := by
  pointwise [k0_pay4]
theorem pay6_at (v : Vec Ideal S1024x512 .f32) (r : Vec Ideal S1x1024x512 .f32) (z : Fin 1) (a : Fin 1024) (b : Fin 512) :
    k0_pay6 v r (ix3 z a b) = r (ix3 0 a b) + v (ix2 a b) := by
  pointwise [k0_pay6]
theorem pay3_at (x : Vec Ideal S1024x1024 .f32) (w : Vec Ideal S1024x512 .f32) (z : Fin 1) (a : Fin 1024) (b : Fin 512) :
    k0_pay3 x w (ix3 z a b) = ∑ k : Fin 1024, x (ix2 a k) * w (ix2 k b) := by
  pointwise [k0_pay3]
theorem pay5_at (x : Vec Ideal S1024x1024 .f32) (w : Vec Ideal S1024x512 .f32) (a : Fin 1024) (b : Fin 512) :
    k0_pay5 x w (ix2 a b) = ∑ k : Fin 1024, x (ix2 a k) * w (ix2 k b) := by
  pointwise [k0_pay5]
theorem pay8_at (x : Vec Ideal S1024x1024 .f32) (w : Vec Ideal S1024x512 .f32) (a : Fin 1024) (b : Fin 512) :
    k0_pay8 x w (ix2 a b) = ∑ k : Fin 1024, x (ix2 a k) * w (ix2 k b) := by
  pointwise [k0_pay8]
theorem pay9_at (x : Vec Ideal S1024x1024 .f32) (w : Vec Ideal S1024x512 .f32) (a : Fin 1024) (b : Fin 512) :
    k0_pay9 x w (ix2 a b) = ∑ k : Fin 1024, x (ix2 a k) * w (ix2 k b) := by
  pointwise [k0_pay9]
theorem pay14_at (x : Vec Ideal S1024x1024 .f32) (w : Vec Ideal S1024x512 .f32) (a : Fin 1024) (b : Fin 512) :
    k0_pay14 x w (ix2 a b) = ∑ k : Fin 1024, x (ix2 a k) * w (ix2 k b) := by
  pointwise [k0_pay14]
theorem pay13_at (x : Vec Ideal S1024x1024 .f32) (w : Vec Ideal S1024x512 .f32) (a : Fin 1024) (b : Fin 512) :
    k0_pay13 (k0_pay12 x) w (ix2 a b) = ∑ k : Fin 1024, x (ix2 a k) * w (ix2 k b) := by
  pointwise [k0_pay13, k0_pay12]
theorem pay7_at (v : Vec Ideal S1024x512 .f32) (r : Vec Ideal S1x1024x512 .f32) (z : Fin 1) (a : Fin 1024) (b : Fin 512) :
    k0_pay7 v r (ix3 z a b) = r (ix3 0 a b) + v (ix2 a b) := by
  pointwise [k0_pay7]
theorem pay10_at (v : Vec Ideal S1024x512 .f32) (r : Vec Ideal S1x1024x512 .f32) (z : Fin 1) (a : Fin 1024) (b : Fin 512) :
    k0_pay10 v r (ix3 z a b) = r (ix3 0 a b) + v (ix2 a b) := by
  pointwise [k0_pay10]
theorem pay11_at (v : Vec Ideal S1024x512 .f32) (r : Vec Ideal S1x1024x512 .f32) (z : Fin 1) (a : Fin 1024) (b : Fin 512) :
    k0_pay11 v r (ix3 z a b) = r (ix3 0 a b) + v (ix2 a b) := by
  pointwise [k0_pay11]
theorem pay15_at (v : Vec Ideal S1024x512 .f32) (r : Vec Ideal S1x1024x512 .f32) (a : Fin 1024) (b : Fin 512) :
    k0_pay15 v r (ix2 a b) = gelu1 (r (ix3 0 a b) + v (ix2 a b)) := by
  pointwise [k0_pay15, gelu1]
theorem pay1_at (v : Vec Ideal S1024x512 .f32) (r : Vec Ideal S1x1024x512 .f32) (a : Fin 1024) (b : Fin 512) :
    k0_pay1 (k0_pay16 v r) k0_pay17 (ix2 a b) = gelu1 (r (ix3 0 a b) + v (ix2 a b)) := by
  pointwise [k0_pay1, k0_pay16, k0_pay17, gelu1]

end Cert.KernelIdeal.TwoWay

end
-- ==== Proof.Value.lean ====
/-
# The result block of every device, element by element

Over the extended reals: element `(a, n)` of device `c`'s result is the gelu of the four devices' partial products for row
`a` of row block `c`, added up in the order the ring brings them.
-/
module

public import proofs.«01_k».proof.Proof.Pay
public import proofs.«01_k».proof.Proof.Run
public import Idealize.ShloMosaic.Lib.Pipeline.ValueKit

@[expose] public section

set_option maxRecDepth 16384

noncomputable section

namespace Cert.KernelIdeal.TwoWay

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Row `a` of row block `q`. -/
def rowOf (q : Dev nD) (a : Fin 1024) : Fin 4096 := ⟨1024 * q.val + a.val, by
  have h1 : q.val < 4 := q.isLt
  have h2 := a.isLt
  omega⟩

/-- Column `b` of column block `j`, at an offset inside it. -/
def colOf (j : Fin 8) (b : Fin 1024) : Fin 8192 := ⟨1024 * j.val + b.val, by
  have h1 := j.isLt
  have h2 := b.isLt
  omega⟩

/-- Device `d`'s two arrays, as numbers. -/
def xa (d : Dev nD) : S4096x1024.Idx → EReal := m ((d.tc : Thread nD τ).loc main_arg0)
def wa (d : Dev nD) : S1024x8192.Idx → EReal := m ((d.tc : Thread nD τ).loc main_arg1)

/-- Device `d`'s partial product for row `a` of row block `q` and column `n`. -/
def term (d q : Dev nD) (a : Fin 1024) (n : Fin 8192) : EReal :=
  ∑ k : Fin 1024, xa m d (ix2 (rowOf q a) k) * wa m d (ix2 k n)

theorem off1_eq (c : Dev nD) : k0_off1 c = ![1024 * (prv c).val, 0] := by revert c; decide +kernel
theorem off2_eq (c : Dev nD) : k0_off2 c = ![1024 * (nxt c).val, 0] := by revert c; decide +kernel
theorem off30_eq (c : Dev nD) : k0_off3 c 0#32 = ![1024 * (prv (prv c)).val, 0] := by revert c; decide +kernel
theorem off31_eq (c : Dev nD) : k0_off3 c 1#32 = ![1024 * (prv (prv (prv c))).val, 0] := by revert c; decide +kernel
theorem off32_eq (c : Dev nD) : k0_off3 c 2#32 = ![1024 * c.val, 0] := by revert c; decide +kernel
theorem off40_eq (c : Dev nD) : k0_off4 c 0#32 = ![1024 * (nxt (nxt c)).val, 0] := by revert c; decide +kernel
theorem off41_eq (c : Dev nD) : k0_off4 c 1#32 = ![1024 * (nxt (nxt (nxt c))).val, 0] := by revert c; decide +kernel
theorem off42_eq (c : Dev nD) : k0_off4 c 2#32 = ![1024 * c.val, 0] := by revert c; decide +kernel
theorem prv4 (c : Dev nD) : prv (prv (prv (prv c))) = c := by revert c; decide
theorem nxt4 (c : Dev nD) : nxt (nxt (nxt (nxt c))) = c := by revert c; decide

theorem idx0 (t : Fin cfg0.N) : cc0_transform_0 (grid0.coords t) = ![0, 0] := by revert t; decide +kernel
theorem idx1 (t : Fin cfg0.N) : cc0_transform_1 (grid0.coords t) = ![0, t.val] := by revert t; decide +kernel
theorem idx2 (t : Fin cfg0.N) : cc0_transform_2 (grid0.coords t) = ![0, t.val] := by revert t; decide +kernel

theorem xs_at (c : Dev nD) (j : ℕ) (x : S4096x1024.Idx) : xs m c j x = xa m c x := by
  unfold xs xa
  blk_simp [iblk]
  show m _ _ = m _ _
  congr 1
  funext e
  apply Fin.ext
  fin_cases e
  · blk_simp
    rw [show win0_0.index (pt j) 0 = 0 from congrFun (idx0 (pt j)) 0, Nat.zero_mul, Nat.zero_add]
  · blk_simp
    rw [show win0_0.index (pt j) 1 = 0 from congrFun (idx0 (pt j)) 1, Nat.zero_mul, Nat.zero_add]

theorem ws_at (c : Dev nD) (t : Fin 8) (k b : Fin 1024) : ws m c t.val (ix2 k b) = wa m c (ix2 k (colOf t b)) := by
  have ht : (pt t.val).val = t.val := Nat.mod_eq_of_lt t.isLt
  unfold ws wa
  blk_simp [iblk]
  show m _ _ = m _ _
  congr 1
  funext e
  apply Fin.ext
  fin_cases e
  · blk_simp
    rw [show win0_1.index (pt t.val) 0 = 0 from congrFun (idx1 (pt t.val)) 0, Nat.zero_mul, Nat.zero_add]
    rfl
  · blk_simp
    rw [show win0_1.index (pt t.val) 1 = t.val from (congrFun (idx1 (pt t.val)) 1).trans ht, Nat.mul_comm]
    rfl

theorem xr_at (c : Dev nD) (j : ℕ) (off : Fin 2 → ℕ) (h) (q : Dev nD) (ho : off = ![1024 * q.val, 0]) (a k : Fin 1024) :
    xr m c j off h (ix2 a k) = xa m c (ix2 (rowOf q a) k) := by
  subst ho
  unfold xr
  rw [xs_at]
  congr 1
  funext e
  apply Fin.ext
  fin_cases e
  · show 1024 * q.val + 1 * a.val = 1024 * q.val + a.val
    rw [Nat.one_mul]
  · show 0 + 1 * k.val = k.val
    rw [Nat.one_mul, Nat.zero_add]

theorem wl_at (c : Dev nD) (t : Fin 8) (k : Fin 1024) (b : Fin 512) :
    wl m c t.val (ix2 k b) = wa m c (ix2 k (colOf t ⟨b.val, b.isLt.trans (by decide)⟩)) := by
  rw [← ws_at]
  unfold wl
  congr 1
  funext e
  apply Fin.ext
  fin_cases e
  · show 0 + 1 * k.val = k.val
    rw [Nat.one_mul, Nat.zero_add]
  · show 0 + 1 * b.val = b.val
    rw [Nat.one_mul, Nat.zero_add]
theorem wr_at (c : Dev nD) (t : Fin 8) (k : Fin 1024) (b : Fin 512) :
    wr m c t.val (ix2 k b) = wa m c (ix2 k (colOf t ⟨512 + b.val, by have := b.isLt; omega⟩)) := by
  rw [← ws_at]
  unfold wr
  congr 1
  funext e
  apply Fin.ext
  fin_cases e
  · show 0 + 1 * k.val = k.val
    rw [Nat.one_mul, Nat.zero_add]
  · show 512 + 1 * b.val = 512 + b.val
    rw [Nat.one_mul]

/-- The column of the left and of the right half. -/
def colL (t : Fin 8) (b : Fin 512) : Fin 8192 := colOf t ⟨b.val, b.isLt.trans (by decide)⟩
def colR (t : Fin 8) (b : Fin 512) : Fin 8192 := colOf t ⟨512 + b.val, by have := b.isLt; omega⟩

theorem sent0_t (d : Dev nD) (t : Fin 8) (z : Fin 1) (a : Fin 1024) (b : Fin 512) :
    sent0 m true d t.val (ix3 z a b) = term m d (prv d) a (colL t b) := by
  exact (pay2_at _ _ z a b).trans (Finset.sum_congr rfl fun k _ => by rw [xr_at m _ _ _ _ _ (off1_eq d), wl_at]; rfl)
theorem sent0_f (d : Dev nD) (t : Fin 8) (z : Fin 1) (a : Fin 1024) (b : Fin 512) :
    sent0 m false d t.val (ix3 z a b) = term m d (nxt d) a (colR t b) := by
  exact (pay3_at _ _ z a b).trans (Finset.sum_congr rfl fun k _ => by rw [xr_at m _ _ _ _ _ (off2_eq d), wr_at]; rfl)
theorem part_t0 (d : Dev nD) (t : Fin 8) (a : Fin 1024) (b : Fin 512) :
    part m true 0 d t.val (ix2 a b) = term m d (prv (prv d)) a (colL t b) := by
  exact (pay4_at _ _ a b).trans (Finset.sum_congr rfl fun k _ => by rw [xr_at m _ _ _ _ _ (off30_eq d), wl_at]; rfl)
theorem part_t1 (d : Dev nD) (t : Fin 8) (a : Fin 1024) (b : Fin 512) :
    part m true 1 d t.val (ix2 a b) = term m d (prv (prv (prv d))) a (colL t b) := by
  exact (pay8_at _ _ a b).trans (Finset.sum_congr rfl fun k _ => by rw [xr_at m _ _ _ _ _ (off31_eq d), wl_at]; rfl)
theorem part_t2 (d : Dev nD) (t : Fin 8) (a : Fin 1024) (b : Fin 512) :
    part m true 2 d t.val (ix2 a b) = term m d d a (colL t b) := by
  exact (pay13_at _ _ a b).trans (Finset.sum_congr rfl fun k _ => by rw [xr_at m _ _ _ _ _ (off32_eq d), wl_at]; rfl)
theorem part_f0 (d : Dev nD) (t : Fin 8) (a : Fin 1024) (b : Fin 512) :
    part m false 0 d t.val (ix2 a b) = term m d (nxt (nxt d)) a (colR t b) := by
  exact (pay5_at _ _ a b).trans (Finset.sum_congr rfl fun k _ => by rw [xr_at m _ _ _ _ _ (off40_eq d), wr_at]; rfl)
theorem part_f1 (d : Dev nD) (t : Fin 8) (a : Fin 1024) (b : Fin 512) :
    part m false 1 d t.val (ix2 a b) = term m d (nxt (nxt (nxt d))) a (colR t b) := by
  exact (pay9_at _ _ a b).trans (Finset.sum_congr rfl fun k _ => by rw [xr_at m _ _ _ _ _ (off41_eq d), wr_at]; rfl)
theorem part_f2 (d : Dev nD) (t : Fin 8) (a : Fin 1024) (b : Fin 512) :
    part m false 2 d t.val (ix2 a b) = term m d d a (colR t b) := by
  exact (pay14_at _ _ a b).trans (Finset.sum_congr rfl fun k _ => by rw [xr_at m _ _ _ _ _ (off42_eq d), wr_at]; rfl)

/-- The four devices' partial products added up. -/
def total (q : Dev nD) (a : Fin 1024) (n : Fin 8192) : EReal := ∑ d : Dev nD, term m d q a n

theorem sum_prv (f : Dev nD → EReal) (c : Dev nD) : ((f (prv (prv (prv c))) + f (prv (prv c))) + f (prv c)) + f c = ∑ d : Dev nD, f d := by
  rw [Fin.sum_univ_four]
  fin_cases c
  · show f 1 + f 2 + f 3 + f 0 = _; ac_rfl
  · show f 2 + f 3 + f 0 + f 1 = _; ac_rfl
  · show f 3 + f 0 + f 1 + f 2 = _; ac_rfl
  · show f 0 + f 1 + f 2 + f 3 = _; ac_rfl
theorem sum_nxt (f : Dev nD → EReal) (c : Dev nD) : ((f (nxt (nxt (nxt c))) + f (nxt (nxt c))) + f (nxt c)) + f c = ∑ d : Dev nD, f d := by
  rw [Fin.sum_univ_four]
  fin_cases c
  · show f 3 + f 2 + f 1 + f 0 = _; ac_rfl
  · show f 0 + f 3 + f 2 + f 1 = _; ac_rfl
  · show f 1 + f 0 + f 3 + f 2 = _; ac_rfl
  · show f 2 + f 1 + f 0 + f 3 = _; ac_rfl

theorem outl_at (c : Dev nD) (t : Fin 8) (a : Fin 1024) (b : Fin 512) : outl m c t.val (ix2 a b) = gelu1 (total m c a (colL t b)) := by
  unfold outl
  rw [pay15_at]
  congr 1
  refine (congrArg (· + part m true 2 c t.val (ix2 a b)) (pay10_at (part m true 1 (prv c) t.val) (sent1 m true (prv (prv c)) t.val) 0 a b)).trans ?_
  refine (congrArg (fun e => (e + part m true 1 (prv c) t.val (ix2 a b)) + part m true 2 c t.val (ix2 a b))
    (pay6_at (part m true 0 (prv (prv c)) t.val) (sent0 m true (prv (prv (prv c))) t.val) 0 a b)).trans ?_
  rw [sent0_t, part_t0, part_t1, part_t2, prv4]
  exact sum_prv (fun d => term m d c a (colL t b)) c
theorem outr_at (c : Dev nD) (t : Fin 8) (a : Fin 1024) (b : Fin 512) : outr m c t.val (ix2 a b) = gelu1 (total m c a (colR t b)) := by
  unfold outr
  rw [pay1_at]
  congr 1
  refine (congrArg (· + part m false 2 c t.val (ix2 a b)) (pay11_at (part m false 1 (nxt c) t.val) (sent1 m false (nxt (nxt c)) t.val) 0 a b)).trans ?_
  refine (congrArg (fun e => (e + part m false 1 (nxt c) t.val (ix2 a b)) + part m false 2 c t.val (ix2 a b))
    (pay7_at (part m false 0 (nxt (nxt c)) t.val) (sent0 m false (nxt (nxt (nxt c))) t.val) 0 a b)).trans ?_
  rw [sent0_f, part_f0, part_f1, part_f2, nxt4]
  exact sum_nxt (fun d => term m d c a (colR t b)) c

theorem outAt_at (c : Dev nD) (t : Fin 8) (a b : Fin 1024) : outAt m c t.val (ix2 a b) = gelu1 (total m c a (colOf t b)) := by
  unfold outAt
  by_cases h : b.val < 512
  · rw [dif_pos (show ((ix2 a b : S1024x1024.Idx) 1).val < 512 from h)]
    refine Eq.trans ?_ (outl_at m c t a ⟨b.val, h⟩)
    congr 1
    funext e
    fin_cases e <;> rfl
  · rw [dif_neg (show ¬ ((ix2 a b : S1024x1024.Idx) 1).val < 512 from h)]
    refine (Eq.trans ?_ (outr_at m c t a ⟨b.val - 512, by have := b.isLt; omega⟩)).trans ?_
    · congr 1
      funext e
      fin_cases e <;> rfl
    · congr 2
      unfold colR
      congr 1
      exact Fin.ext (by show 512 + (b.val - 512) = b.val; omega)

/-- Device `c`'s result: the gelu of the four partial products. -/
def resAt (c : Dev nD) : S1024x8192.Idx → EReal := fun i => gelu1 (total m c (i 0) (i 1))

theorem finalA_out (c : Dev nD) : finalA m ρ c (2 : Fin 3) = resAt m c := by
  refine (dats m ρ 0 c).arrAt_eq_of_covers (2 : Fin 3) _ (by decide +kernel) fun t hf y => ?_
  have hx : ((cfg0.win (2 : Fin 3)).blk t).view.emb y = (ix2 (y 0 : Fin 1024) (colOf t (y 1)) : S1024x8192.Idx) := by
    funext e
    apply Fin.ext
    fin_cases e
    · blk_simp
      rw [show win0_2.index t 0 = 0 from congrFun (idx2 t) 0, Nat.zero_mul, Nat.zero_add]
      rfl
    · blk_simp
      rw [show win0_2.index t 1 = t.val from congrFun (idx2 t) 1, Nat.mul_comm]
      rfl
  rw [hx]
  refine Eq.trans ?_ (outAt_at m c t (y 0) (y 1))
  show outAt m c t.val _ = _
  congr 1
  funext e
  fin_cases e <;> rfl

end Cert.KernelIdeal.TwoWay

end
-- ==== Proof.Equal.lean ====
/-
# The kernel and the reference agree over the extended reals

The reference's sum over all 4096 columns is the four devices' sums over 1024 of them; its gelu multiplies the same factors
in another order.
-/
module

public import proofs.«01_k».proof.Defs
public import proofs.«01_k».proof.Proof.Value
public import proofs.«01_k».proof.Proof.Gen.ReferenceIdeal.Run
public import Idealize.ShloMosaic.Lib.Quiescent
public import Idealize.ShloMosaic.Lib.Layout

@[expose] public section

set_option maxRecDepth 16384

noncomputable section

namespace Cert.KernelIdeal.TwoWay

open Idealize.ShloMosaic Idealize.ShloMosaic.TcCoe Idealize.SL.Sem

/-- The reference's frame. -/
theorem frame_ref : Cert.quiescent_ReferenceIdeal := fun m ρ _ =>
  (θ_run Cert.ReferenceIdeal.defs _ _).mono
    (fun r h => ⟨fun c => ⟨(h c).2.1, (h c).2.2⟩, sem_eq_zero_of_no_sems (by decide) r.2⟩) (Cert.ReferenceIdeal.Value.run m ρ)

/-- A sum over 4096 columns, block by block. -/
theorem sum_blocks (f : Fin 4096 → EReal) :
    ∑ k : Fin 4096, f k = ∑ d : Fin 4, ∑ k : Fin 1024, f ⟨1024 * d.val + k.val, by have := d.isLt; have := k.isLt; omega⟩ := by
  rw [← Fintype.sum_prod_type', ← (finProdFinEquiv (m := 4) (n := 1024)).sum_comp]
  refine Finset.sum_congr rfl fun p _ => congrArg f (Fin.ext ?_)
  show p.2.val + 1024 * p.1.val = 1024 * p.1.val + p.2.val
  exact Nat.add_comm _ _

/-- The reference's result, as its run states it. -/
def refOut (x : FVec Ideal Cert.ReferenceIdeal.S4096x4096 .f32) (w : FVec Ideal Cert.ReferenceIdeal.S4096x8192 .f32) :
    FVec Ideal Cert.ReferenceIdeal.S4096x8192 .f32 :=
  open Cert.ReferenceIdeal Cert.ReferenceIdeal.Gen in
  let y : FVec Ideal S4096x8192 .f32 := Host.dotGeneral dot_S4096x4096_S4096x8192_S4096x8192_1_0_0_1_n_n none x w
  mulf (mulf (broadcastInDim S4096x8192 ![] bcast_S_S4096x8192 (constant S_ .f32 0x3F000000#32)) y)
    (addf (broadcastInDim S4096x8192 ![] bcast_S_S4096x8192 (constant S_ .f32 0x3F800000#32))
      (Host.tanh (mulf (broadcastInDim S4096x8192 ![] bcast_S_S4096x8192 (constant S_ .f32 0x3F4C422A#32))
        (addf y (mulf (broadcastInDim S4096x8192 ![] bcast_S_S4096x8192 (constant S_ .f32 0x3D372713#32)) (mulf (mulf y y) y))))))

theorem refOut_at (x : FVec Ideal Cert.ReferenceIdeal.S4096x4096 .f32) (w : FVec Ideal Cert.ReferenceIdeal.S4096x8192 .f32) (r : Fin 4096) (n : Fin 8192) :
    refOut x w (ix2 r n) = gelu1 (∑ k : Fin 4096, x (ix2 r k) * w (ix2 k n)) := by
  unfold refOut gelu1
  pointwise
  simp only [mul_assoc]

/-- The four devices' sums are the reference's one. -/
theorem total_eq (m : (ℓ : Loc Cert.KernelIdeal.nD Cert.KernelIdeal.τ Cert.KernelIdeal.sig) → Buf (Elt Ideal) ℓ)
    (x : FVec Ideal Cert.ReferenceIdeal.S4096x4096 .f32) (w : FVec Ideal Cert.ReferenceIdeal.S4096x8192 .f32)
    (hx : ∀ c : Dev Cert.KernelIdeal.nD, xa m c = Layout.block ⟨2, ![4096, 1024]⟩ ⟨2, ![4096, 4096]⟩ 1 4 c x)
    (hw : ∀ c : Dev Cert.KernelIdeal.nD, wa m c = Layout.block ⟨2, ![1024, 8192]⟩ ⟨2, ![4096, 8192]⟩ 0 4 c w)
    (q : Dev Cert.KernelIdeal.nD) (a : Fin 1024) (n : Fin 8192) :
    total m q a n = ∑ k : Fin 4096, x (ix2 (rowOf q a) k) * w (ix2 k n) := by
  rw [sum_blocks]
  unfold total term
  refine Finset.sum_congr rfl fun d _ => Finset.sum_congr rfl fun k _ => ?_
  rw [hx d, hw d]
  have t1 : Layout.Tiles ⟨2, ![4096, 1024]⟩ ⟨2, ![4096, 4096]⟩ 1 4 := by decide
  have t2 : Layout.Tiles ⟨2, ![1024, 8192]⟩ ⟨2, ![4096, 8192]⟩ 0 4 := by decide
  rw [Layout.block_apply (h := t1), Layout.block_apply (h := t2)]
  congr 1
  · congr 1
    funext e
    apply Fin.ext
    fin_cases e
    · rfl
    · show d.val * 1024 + k.val = 1024 * d.val + k.val
      rw [Nat.mul_comm]
  · congr 1
    funext e
    apply Fin.ext
    fin_cases e
    · show d.val * 1024 + k.val = 1024 * d.val + k.val
      rw [Nat.mul_comm]
    · rfl

theorem agree : Cert.algebraic_KernelIdeal_ReferenceIdeal := by
  intro m g m' g' _ hm
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, (h.1 c (0 : Fin 3)).trans (finalA_x m g c), (h.1 c (1 : Fin 3)).trans (finalA_w m g c)⟩) (run_main m g)
    refine ((h.1 c (2 : Fin 3)).trans (finalA_out m g c)).trans ?_
    have t2 : Layout.Tiles ⟨2, ![1024, 8192]⟩ ⟨2, ![4096, 8192]⟩ 0 4 := by decide
    funext i
    rw [Layout.block_apply (h := t2)]
    have hi : t2.idx c i = (ix2 (rowOf c (i 0)) (i 1) : Cert.ReferenceIdeal.S4096x8192.Idx) := by
      funext e
      apply Fin.ext
      fin_cases e
      · show c.val * 1024 + (i 0).val = 1024 * c.val + (i 0).val
        rw [Nat.mul_comm]
      · rfl
    refine Eq.trans ?_ (congrArg (refOut _ _) hi.symm)
    exact (congrArg gelu1 (total_eq m _ _ (fun d => (hm d).1) (fun d => (hm d).2) c (i 0) (i 1))).trans (refOut_at _ _ (rowOf c (i 0)) (i 1)).symm
  · exact (θ_run Cert.ReferenceIdeal.defs _ _).mono (fun _ h => ⟨(h 0).1, (h 0).2.1, (h 0).2.2⟩) (Cert.ReferenceIdeal.Value.run m' g')

end Cert.KernelIdeal.TwoWay

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.TwoWay.frame_kernel, Cert.KernelIdeal.TwoWay.frame_ideal, Cert.KernelIdeal.TwoWay.frame_ref, trivial,
  Cert.KernelIdeal.TwoWay.agree⟩

end Cert.Proof

end
